-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_log_probabilities [hPre_log_probabilities : Cert.Pre_log_probabilities.Facts] (m : (ℓ : Loc Cert.KernelIdeal.nD Cert.KernelIdeal.τ Cert.KernelIdeal.sig) → Buf (Elt Ideal) ℓ) : Prop :=
  ∀ c : Dev Cert.KernelIdeal.nD,
    (Cert.Pre_log_probabilities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_log_probabilities [hPre_log_probabilities : Cert.Pre_log_probabilities.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_log_probabilities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_log_probabilities [hKernelIdeal : Cert.KernelIdeal.Facts] [hPre_log_probabilities : Cert.Pre_log_probabilities.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_log_probabilities m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_log_probabilities [hReferenceIdeal : Cert.ReferenceIdeal.Facts] [hPre_log_probabilities : Cert.Pre_log_probabilities.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_log_probabilities m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_log_probabilities [hKernelIdeal : Cert.KernelIdeal.Facts] [hReferenceIdeal : Cert.ReferenceIdeal.Facts] [hPre_log_probabilities : Cert.Pre_log_probabilities.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_log_probabilities m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_log_probabilities : Cert.Pre_log_probabilities.Facts),
    quiescent_Kernel (hKernel := hKernel)
    ∧ quiescent_KernelIdeal (hKernelIdeal := hKernelIdeal)
    ∧ quiescent_KernelIdeal_pre_log_probabilities (hKernelIdeal := hKernelIdeal) (hPre_log_probabilities := hPre_log_probabilities)
    ∧ quiescent_ReferenceIdeal (hReferenceIdeal := hReferenceIdeal)
    ∧ quiescent_ReferenceIdeal_pre_log_probabilities (hReferenceIdeal := hReferenceIdeal) (hPre_log_probabilities := hPre_log_probabilities)
    ∧ preserves_Kernel_KernelIdeal
    ∧ algebraic_KernelIdeal_ReferenceIdeal_pre_log_probabilities (hKernelIdeal := hKernelIdeal) (hReferenceIdeal := hReferenceIdeal) (hPre_log_probabilities := hPre_log_probabilities)
-- ==== Pre_log_probabilities.lean ====
abbrev S65537x64x32 : Shape := ⟨3, ![65537, 64, 32]⟩
abbrev S65537x64x2 : Shape := ⟨3, ![65537, 64, 2]⟩
abbrev S65537x64 : Shape := ⟨2, ![65537, 64]⟩
abbrev S65536 : Shape := ⟨1, ![65536]⟩
abbrev S_ : Shape := ⟨0, ![]⟩
abbrev S65537x64x1 : Shape := ⟨3, ![65537, 64, 1]⟩

class Facts : Prop where
  bcast_S_S65537x64x32 : S_.BroadcastsInDim S65537x64x32 (![] : Fin 0 → Fin S65537x64x32.rank)
  reducesTo_S65537x64x32_S_d0_1_2 : S65537x64x32.ReducesTo [0, 1, 2] S_
  h_S_ : 0 < S_.numel
  bcast_S_S65537x64x2 : S_.BroadcastsInDim S65537x64x2 (![] : Fin 0 → Fin S65537x64x2.rank)
  reducesTo_S65537x64x2_S_d0_1_2 : S65537x64x2.ReducesTo [0, 1, 2] S_
  slices_S65537x64x2_S65537x64x1_0_0_0 : S65537x64x2.Slices ![0, 0, 0] S65537x64x1
  shapeCasts_S65537x64x1_S65537x64 : S65537x64x1.ShapeCasts S65537x64
  bcast_S_S65537x64 : S_.BroadcastsInDim S65537x64 (![] : Fin 0 → Fin S65537x64.rank)
  reducesTo_S65537x64_S_d0_1 : S65537x64.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg3 : IVec S65536 32) (main_v12 : IVec S_ 1) (main_v15 : IVec S_ 1) : IVec S_ 1 :=
  let main_v16 : IVec S_ 1 := andi main_v12 main_v15
  let main_c_6 : IVec S_ 32 := constantI S_ 32 0#32
  let main_v17 : IVec S65536 32 := broadcastInDim S65536 ![] bcast_S_S65536 main_c_6
  let main_v18 : IVec S65536 1 := cmpi .sge main_arg3 main_v17
  let main_c_7 : IVec S_ 32 := constantI S_ 32 32#32
  let main_v19 : IVec S65536 32 := broadcastInDim S65536 ![] bcast_S_S65536 main_c_7
  let main_v20 : IVec S65536 1 := cmpi .slt main_arg3 main_v19
  let main_v21 : IVec S65536 1 := andi main_v18 main_v20
  let main_c_8 : IVec S_ 1 := constantI S_ 1 1#1
  let main_v22 : IVec S_ 1 := (fun x v => Host.reduce IntOp.andi x v reducesTo_S65536_S_d0 h_S_) main_v21 main_c_8
  let main_v23 : IVec S_ 1 := andi main_v16 main_v22
  main_v23

def fn {F : FTy → Type} [FloatOps F] (main_arg0 : FVec F S65537x64x32 .f32) (main_arg1 : FVec F S65537x64x2 .f32) (main_arg2 : FVec F S65537x64 .f32) (main_arg3 : IVec S65536 32) : IVec S_ 1 :=
  let main_cst : FVec F S_ .f32 := constant S_ .f32 0x00000000#32
  let main_v0 : FVec F S65537x64x32 .f32 := broadcastInDim S65537x64x32 ![] bcast_S_S65537x64x32 main_cst
  let main_v1 : IVec S65537x64x32 1 := cmpf .ole main_arg0 main_v0
  let main_c : IVec S_ 1 := constantI S_ 1 1#1
  let main_v2 : IVec S_ 1 := (fun x v => Host.reduce IntOp.andi x v reducesTo_S65537x64x32_S_d0_1_2 h_S_) main_v1 main_c
  let main_cst_0 : FVec F S_ .f32 := constant S_ .f32 0x00000000#32
  let main_v3 : FVec F S65537x64x2 .f32 := broadcastInDim S65537x64x2 ![] bcast_S_S65537x64x2 main_cst_0
  let main_v4 : IVec S65537x64x2 1 := cmpf .ole main_arg1 main_v3
  let main_c_1 : IVec S_ 1 := constantI S_ 1 1#1
  let main_v5 : IVec S_ 1 := (fun x v => Host.reduce IntOp.andi x v reducesTo_S65537x64x2_S_d0_1_2 h_S_) main_v4 main_c_1
  let main_v6 : IVec S_ 1 := andi main_v2 main_v5
  let main_v7 : FVec F S65537x64x1 .f32 := (extractStridedSlice S65537x64x1 ![0, 0, 0] · slices_S65537x64x2_S65537x64x1_0_0_0) main_arg1
  let main_v8 : FVec F S65537x64 .f32 := shapeCast S65537x64 main_v7 shapeCasts_S65537x64x1_S65537x64
  let main_cst_2 : FVec F S_ .f32 := constant S_ .f32 0xC2480000#32
  let main_v9 : FVec F S65537x64 .f32 := broadcastInDim S65537x64 ![] bcast_S_S65537x64 main_cst_2
  let main_v10 : IVec S65537x64 1 := cmpf .oge main_v8 main_v9
  let main_c_3 : IVec S_ 1 := constantI S_ 1 1#1
  let main_v11 : IVec S_ 1 := (fun x v => Host.reduce IntOp.andi x v reducesTo_S65537x64_S_d0_1 h_S_) main_v10 main_c_3
  let main_v12 : IVec S_ 1 := andi main_v6 main_v11
  let main_cst_4 : FVec F S_ .f32 := constant S_ .f32 0x00000000#32
  let main_v13 : FVec F S65537x64 .f32 := broadcastInDim S65537x64 ![] bcast_S_S65537x64 main_cst_4
  let main_v14 : IVec S65537x64 1 := cmpf .ole main_arg2 main_v13
  let main_c_5 : IVec S_ 1 := constantI S_ 1 1#1
  let main_v15 : IVec S_ 1 := (fun x v => Host.reduce IntOp.andi x v reducesTo_S65537x64_S_d0_1 h_S_) main_v14 main_c_5
  fn_part1 (F := F) main_arg3 main_v12 main_v15
-- ==== Kernel.lean ====
abbrev S65537x64x32 : Shape := ⟨3, ![65537, 64, 32]⟩
abbrev S65537x64x2 : Shape := ⟨3, ![65537, 64, 2]⟩
abbrev S65537x64 : Shape := ⟨2, ![65537, 64]⟩
abbrev S65536 : Shape := ⟨1, ![65536]⟩
abbrev S65537x64x1 : Shape := ⟨3, ![65537, 64, 1]⟩
abbrev S1x64 : Shape := ⟨2, ![1, 64]⟩
abbrev S65536x1 : Shape := ⟨2, ![65536, 1]⟩
abbrev S1x32 : Shape := ⟨2, ![1, 32]⟩
abbrev S65536x32 : Shape := ⟨2, ![65536, 32]⟩
abbrev S65536x1x32 : Shape := ⟨3, ![65536, 1, 32]⟩
abbrev S1x1 : Shape := ⟨2, ![1, 1]⟩
abbrev S256x64x32 : Shape := ⟨3, ![256, 64, 32]⟩
abbrev S256x1x32 : Shape := ⟨3, ![256, 1, 32]⟩
abbrev S256x64 : Shape := ⟨2, ![256, 64]⟩
abbrev S1 : Shape := ⟨1, ![1]⟩
abbrev S1x255 : Shape := ⟨2, ![1, 255]⟩
abbrev S8x64 : Shape := ⟨2, ![8, 64]⟩
abbrev S7x64 : Shape := ⟨2, ![7, 64]⟩
abbrev S2x64 : Shape := ⟨2, ![2, 64]⟩
abbrev S6x64 : Shape := ⟨2, ![6, 64]⟩
abbrev S4x64 : Shape := ⟨2, ![4, 64]⟩
abbrev S5x64 : Shape := ⟨2, ![5, 64]⟩
abbrev S3x64 : Shape := ⟨2, ![3, 64]⟩
abbrev S28x64 : Shape := ⟨2, ![28, 64]⟩
abbrev S28 : Shape := ⟨1, ![28]⟩
abbrev S28x1 : Shape := ⟨2, ![28, 1]⟩
abbrev S8 : Shape := ⟨1, ![8]⟩
abbrev S8x1 : Shape := ⟨2, ![8, 1]⟩
abbrev S64 : Shape := ⟨1, ![64]⟩

abbrev nBuf : Space → Nat
  | .hbm => 17
  | .vmem => 17
  | .smem => 0
  | _ => 0

abbrev bufTy : (tb : Table) → Fin (tcTables nBuf tb) → BufTy
  | .hbm, ⟨0, _⟩ => ⟨S65537x64x32, .f32⟩
  | .hbm, ⟨1, _⟩ => ⟨S65537x64x2, .f32⟩
  | .hbm, ⟨2, _⟩ => ⟨S65537x64, .f32⟩
  | .hbm, ⟨3, _⟩ => ⟨S65536, .i32⟩
  | .hbm, ⟨4, _⟩ => ⟨S65537x64x1, .f32⟩
  | .hbm, ⟨5, _⟩ => ⟨S65537x64, .f32⟩
  | .hbm, ⟨6, _⟩ => ⟨S65537x64x1, .f32⟩
  | .hbm, ⟨7, _⟩ => ⟨S65537x64, .f32⟩
  | .hbm, ⟨8, _⟩ => ⟨S1x64, .f32⟩
  | .hbm, ⟨9, _⟩ => ⟨S65536x1, .i32⟩
  | .hbm, ⟨10, _⟩ => ⟨S1x32, .i32⟩
  | .hbm, ⟨11, _⟩ => ⟨S65536x32, .i32⟩
  | .hbm, ⟨12, _⟩ => ⟨S65536x32, .i32⟩
  | .hbm, ⟨13, _⟩ => ⟨S65536x32, .i1⟩
  | .hbm, ⟨14, _⟩ => ⟨S65536x32, .f32⟩
  | .hbm, ⟨15, _⟩ => ⟨S65536x1x32, .f32⟩
  | .hbm, ⟨16, _⟩ => ⟨S1x1, .f32⟩
  | .local _ .vmem, ⟨0, _⟩ => ⟨S256x64x32, .f32⟩
  | .local _ .vmem, ⟨1, _⟩ => ⟨S256x64x32, .f32⟩
  | .local _ .vmem, ⟨2, _⟩ => ⟨S256x1x32, .f32⟩
  | .local _ .vmem, ⟨3, _⟩ => ⟨S256x1x32, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S1x64, .f32⟩
  | .local _ .vmem, ⟨11, _⟩ => ⟨S1x1, .f32⟩
  | .local _ .vmem, ⟨12, _⟩ => ⟨S1x64, .f32⟩
  | .local _ .vmem, ⟨13, _⟩ => ⟨S1x1, .i32⟩
  | .local _ .vmem, ⟨14, _⟩ => ⟨S256x64, .f32⟩
  | .local _ .vmem, ⟨15, _⟩ => ⟨S256x64, .f32⟩
  | .local _ .vmem, ⟨16, _⟩ => ⟨S256x64, .f32⟩
  | _, _ => ⟨S65537x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![256], ![false]⟩

@[reducible] def k0_t1_loop (i : grid0.Coords) : Scf.Loop 32 :=
  let arg0 : BitVec 32 := BitVec.ofNat 32 (i 0).val
  let c0_i32_18 : BitVec 32 := 0#32
  let v28 : BitVec 1 := Scalar.cmpi .eq arg0 c0_i32_18
  let c1_i32 : BitVec 32 := 1#32
  let c0_i32_19 : BitVec 32 := 0#32
  let v29 : BitVec 32 := Scalar.select v28 c1_i32 c0_i32_19
  let c32_i32 : BitVec 32 := 32#32
  let v32 : BitVec 32 := Scalar.subi c32_i32 v29
  let c1_i32_24 : BitVec 32 := 1#32
  let v34 : BitVec 32 := Scalar.divsi v32 c1_i32_24
  let v35 : BitVec 32 := Scalar.muli v34 c1_i32_24
  let v36 : BitVec 32 := Scalar.addi v29 v35
  let c1_i32_25 : BitVec 32 := 1#32
  ⟨v29, v36, c1_i32_25⟩
def k0_off1 (i : grid0.Coords) (k0_t1 : Fin (k0_t1_loop i).trips) : Fin 2 → Nat :=
  let arg0 : BitVec 32 := BitVec.ofNat 32 (i 0).val
  let c0_i32_18 : BitVec 32 := 0#32
  let v28 : BitVec 1 := Scalar.cmpi .eq arg0 c0_i32_18
  let c1_i32 : BitVec 32 := 1#32
  let c0_i32_19 : BitVec 32 := 0#32
  let v29 : BitVec 32 := Scalar.select v28 c1_i32 c0_i32_19
  let c1_i32_25 : BitVec 32 := 1#32
  let arg13 : BitVec 32 := Scf.iv v29 c1_i32_25 k0_t1
  let c8_i32 : BitVec 32 := 8#32
  let v48 : BitVec 32 := Scalar.muli arg13 c8_i32
  let v49 : Index := Scalar.indexCast v48
  let c0_32 : Index := 0#32
  ![v49.toNat, 0]
@[reducible] def k0_t2_loop (i : grid0.Coords) : Scf.Loop 32 :=
  let arg0 : BitVec 32 := BitVec.ofNat 32 (i 0).val
  let c0_i32_18 : BitVec 32 := 0#32
  let v28 : BitVec 1 := Scalar.cmpi .eq arg0 c0_i32_18
  let c1_i32 : BitVec 32 := 1#32
  let c0_i32_19 : BitVec 32 := 0#32
  let v29 : BitVec 32 := Scalar.select v28 c1_i32 c0_i32_19
  let c32_i32 : BitVec 32 := 32#32
  let v32 : BitVec 32 := Scalar.subi c32_i32 v29
  let c1_i32_24 : BitVec 32 := 1#32
  let v34 : BitVec 32 := Scalar.divsi v32 c1_i32_24
  let v35 : BitVec 32 := Scalar.muli v34 c1_i32_24
  let v36 : BitVec 32 := Scalar.addi v29 v35
  let v33 : BitVec 32 := Scalar.addi v29 v32
  let c1_i32_26 : BitVec 32 := 1#32
  ⟨v36, v33, c1_i32_26⟩
def k0_off2 (i : grid0.Coords) (k0_t2 : Fin (k0_t2_loop i).trips) : Fin 2 → Nat :=
  let arg0 : BitVec 32 := BitVec.ofNat 32 (i 0).val
  let c0_i32_18 : BitVec 32 := 0#32
  let v28 : BitVec 1 := Scalar.cmpi .eq arg0 c0_i32_18
  let c1_i32 : BitVec 32 := 1#32
  let c0_i32_19 : BitVec 32 := 0#32
  let v29 : BitVec 32 := Scalar.select v28 c1_i32 c0_i32_19
  let c32_i32 : BitVec 32 := 32#32
  let v32 : BitVec 32 := Scalar.subi c32_i32 v29
  let c1_i32_24 : BitVec 32 := 1#32
  let v34 : BitVec 32 := Scalar.divsi v32 c1_i32_24
  let v35 : BitVec 32 := Scalar.muli v34 c1_i32_24
  let v36 : BitVec 32 := Scalar.addi v29 v35
  let c1_i32_26 : BitVec 32 := 1#32
  let arg13 : BitVec 32 := Scf.iv v36 c1_i32_26 k0_t2
  let c8_i32 : BitVec 32 := 8#32
  let v48 : BitVec 32 := Scalar.muli arg13 c8_i32
  let v49 : Index := Scalar.indexCast v48
  let c0_32 : Index := 0#32
  ![v49.toNat, 0]
def k0_cond2 (i : grid0.Coords) : BitVec 1 :=
  let arg0 : BitVec 32 := BitVec.ofNat 32 (i 0).val
  let c255_i32 : BitVec 32 := 255#32
  let v45 : BitVec 1 := Scalar.cmpi .eq arg0 c255_i32
  let v46 : BitVec 32 := Scalar.extui v45
  let c0_i32_31 : BitVec 32 := 0#32
  let v47 : BitVec 1 := Scalar.cmpi .ne v46 c0_i32_31
  v47

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "ln2" => some ((Real.log 2 : ℝ) : EReal)
  | _ => none
-- ==== ReferenceIdeal.lean ====
abbrev S65537x64x32 : Shape := ⟨3, ![65537, 64, 32]⟩
abbrev S65537x64x2 : Shape := ⟨3, ![65537, 64, 2]⟩
abbrev S65537x64 : Shape := ⟨2, ![65537, 64]⟩
abbrev S65536 : Shape := ⟨1, ![65536]⟩
abbrev S65536x64x32 : Shape := ⟨3, ![65536, 64, 32]⟩
abbrev S65536x1x1 : Shape := ⟨3, ![65536, 1, 1]⟩
abbrev S_ : Shape := ⟨0, ![]⟩
abbrev S1 : Shape := ⟨1, ![1]⟩
abbrev S1x1x1 : Shape := ⟨3, ![1, 1, 1]⟩
abbrev S65536x1 : Shape := ⟨2, ![65536, 1]⟩
abbrev S65536x64x1 : Shape := ⟨3, ![65536, 64, 1]⟩
abbrev S65536x64 : Shape := ⟨2, ![65536, 64]⟩
abbrev S1x64 : Shape := ⟨2, ![1, 64]⟩
abbrev S64 : Shape := ⟨1, ![64]⟩
abbrev S64x64 : Shape := ⟨2, ![64, 64]⟩
abbrev S65535x64x2 : Shape := ⟨3, ![65535, 64, 2]⟩
abbrev S65535x64 : Shape := ⟨2, ![65535, 64]⟩
abbrev S1x64x2 : Shape := ⟨3, ![1, 64, 2]⟩
abbrev S64x2 : Shape := ⟨2, ![64, 2]⟩
abbrev S64x1 : Shape := ⟨2, ![64, 1]⟩
abbrev S1x64x1 : Shape := ⟨3, ![1, 64, 1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S65537x64x32, .f32⟩
  | .hbm, ⟨1, _⟩ => ⟨S65537x64x2, .f32⟩
  | .hbm, ⟨2, _⟩ => ⟨S65537x64, .f32⟩
  | .hbm, ⟨3, _⟩ => ⟨S65536, .i32⟩
  | .hbm, ⟨4, _⟩ => ⟨S65536x64x32, .f32⟩
  | .hbm, ⟨5, _⟩ => ⟨S65536x1x1, .i32⟩
  | .hbm, ⟨6, _⟩ => ⟨S_, .i32⟩
  | .hbm, ⟨7, _⟩ => ⟨S65536x1x1, .i32⟩
  | .hbm, ⟨8, _⟩ => ⟨S65536x1x1, .i1⟩
  | .hbm, ⟨9, _⟩ => ⟨S_, .i32⟩
  | .hbm, ⟨10, _⟩ => ⟨S65536x1x1, .i32⟩
  | .hbm, ⟨11, _⟩ => ⟨S65536x1x1, .i32⟩
  | .hbm, ⟨12, _⟩ => ⟨S65536x1x1, .i32⟩
  | .hbm, ⟨13, _⟩ => ⟨S1, .i32⟩
  | .hbm, ⟨14, _⟩ => ⟨S_, .i32⟩
  | .hbm, ⟨15, _⟩ => ⟨S65536x1x1, .i32⟩
  | .hbm, ⟨16, _⟩ => ⟨S65536x1x1, .i1⟩
  | .hbm, ⟨17, _⟩ => ⟨S1x1x1, .i32⟩
  | .hbm, ⟨18, _⟩ => ⟨S65536x1x1, .i32⟩
  | .hbm, ⟨19, _⟩ => ⟨S65536x1x1, .i1⟩
  | .hbm, ⟨20, _⟩ => ⟨S65536x1x1, .i1⟩
  | .hbm, ⟨21, _⟩ => ⟨S_, .i1⟩
  | .hbm, ⟨22, _⟩ => ⟨S65536x1, .i1⟩
  | .hbm, ⟨23, _⟩ => ⟨S65536x64x1, .f32⟩
  | .hbm, ⟨24, _⟩ => ⟨S65536x64x1, .i1⟩
  | .hbm, ⟨25, _⟩ => ⟨S_, .f32⟩
  | .hbm, ⟨26, _⟩ => ⟨S65536x64x1, .f32⟩
  | .hbm, ⟨27, _⟩ => ⟨S65536x64x1, .f32⟩
  | .hbm, ⟨28, _⟩ => ⟨S65536x64, .f32⟩
  | .hbm, ⟨29, _⟩ => ⟨S1x64, .f32⟩
  | .hbm, ⟨30, _⟩ => ⟨S64, .f32⟩
  | .hbm, ⟨31, _⟩ => ⟨S1x64, .f32⟩
  | .hbm, ⟨32, _⟩ => ⟨S64, .f32⟩
  | .hbm, ⟨33, _⟩ => ⟨S64, .f32⟩
  | .hbm, ⟨34, _⟩ => ⟨S64x64, .i32⟩
  | .hbm, ⟨35, _⟩ => ⟨S64x64, .i32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S64x64, .i1⟩
  | .hbm, ⟨40, _⟩ => ⟨S65535x64x2, .f32⟩
  | .hbm, ⟨41, _⟩ => ⟨S65535x64, .f32⟩
  | .hbm, ⟨42, _⟩ => ⟨S65535x64, .f32⟩
  | .hbm, ⟨43, _⟩ => ⟨S_, .i32⟩
  | .hbm, ⟨44, _⟩ => ⟨S65535x64x2, .f32⟩
  | .hbm, ⟨45, _⟩ => ⟨S65535x64, .f32⟩
  | .hbm, ⟨46, _⟩ => ⟨S65535x64, .f32⟩
  | .hbm, ⟨47, _⟩ => ⟨S64x64, .i1⟩
  | .hbm, ⟨48, _⟩ => ⟨S_, .i32⟩
  | .hbm, ⟨49, _⟩ => ⟨S64, .f32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S1x64x2, .f32⟩
  | .hbm, ⟨55, _⟩ => ⟨S64x2, .f32⟩
  | .hbm, ⟨56, _⟩ => ⟨S_, .i32⟩
  | .hbm, ⟨57, _⟩ => ⟨S1x64, .f32⟩
  | .hbm, ⟨58, _⟩ => ⟨S64, .f32⟩
  | .hbm, ⟨59, _⟩ => ⟨S_, .i32⟩
  | .hbm, ⟨60, _⟩ => ⟨S1x64, .f32⟩
  | .hbm, ⟨61, _⟩ => ⟨S64, .f32⟩
  | .hbm, ⟨62, _⟩ => ⟨S64x1, .f32⟩
  | .hbm, ⟨63, _⟩ => ⟨S64, .f32⟩
  | .hbm, ⟨64, _⟩ => ⟨S64x1, .f32⟩
  | .hbm, ⟨65, _⟩ => ⟨S64, .f32⟩
  | .hbm, ⟨66, _⟩ => ⟨S64x1, .f32⟩
  | .hbm, ⟨67, _⟩ => ⟨S1x64, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S64x1, .f32⟩
  | .hbm, ⟨72, _⟩ => ⟨S64x64, .f32⟩
  | .hbm, ⟨73, _⟩ => ⟨S64x64, .f32⟩
  | .hbm, ⟨74, _⟩ => ⟨S64x64, .f32⟩
  | .hbm, ⟨75, _⟩ => ⟨S64x64, .f32⟩
  | .hbm, ⟨76, _⟩ => ⟨S64x64, .i1⟩
  | .hbm, ⟨77, _⟩ => ⟨S64x64, .f32⟩
  | .hbm, ⟨78, _⟩ => ⟨S64x64, .f32⟩
  | .hbm, ⟨79, _⟩ => ⟨S64x64, .f32⟩
  | .hbm, ⟨80, _⟩ => ⟨S64x64, .f32⟩
  | .hbm, ⟨81, _⟩ => ⟨S64x64, .f32⟩
  | .hbm, ⟨82, _⟩ => ⟨S64x64, .f32⟩
  | .hbm, ⟨83, _⟩ => ⟨S64x64, .f32⟩
  | .hbm, ⟨84, _⟩ => ⟨S64x64, .f32⟩
  | .hbm, ⟨85, _⟩ => ⟨S64x64, .f32⟩
  | .hbm, ⟨86, _⟩ => ⟨S64x1, .f32⟩
  | .hbm, ⟨87, _⟩ => ⟨S64x64, .f32⟩
  | .hbm, ⟨88, _⟩ => ⟨S64x64, .f32⟩
  | .hbm, ⟨89, _⟩ => ⟨S_, .f32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .i1⟩
  | .hbm, ⟨94, _⟩ => ⟨S_, .i32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S1x64, .f32⟩
  | .hbm, ⟨99, _⟩ => ⟨S64x64, .f32⟩
  | .hbm, ⟨100, _⟩ => ⟨S64x64, .f32⟩
  | .hbm, ⟨101, _⟩ => ⟨S64x64, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64, .f32⟩
  | .hbm, ⟨106, _⟩ => ⟨S64, .f32⟩
  | .hbm, ⟨107, _⟩ => ⟨S_, .i32⟩
  | .hbm, ⟨108, _⟩ => ⟨S_, .i32⟩
  | .hbm, ⟨109, _⟩ => ⟨S1x64x1, .f32⟩
  | .hbm, ⟨110, _⟩ => ⟨S64, .f32⟩
  | .hbm, ⟨111, _⟩ => ⟨S64, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .i1⟩
  | .hbm, ⟨116, _⟩ => ⟨S_, .i32⟩
  | .hbm, ⟨117, _⟩ => ⟨S_, .f32⟩
  | .hbm, ⟨118, _⟩ => ⟨S_, .f32⟩
  | .hbm, ⟨119, _⟩ => ⟨S64, .f32⟩
  | .hbm, ⟨120, _⟩ => ⟨S64, .f32⟩
  | .hbm, ⟨121, _⟩ => ⟨S64, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S1x1, .f32⟩
  | _, _ => ⟨S65537x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_0 : Ref sig .tc := ⟨.hbm, 43, rfl⟩
abbrev main_v17_0 : Ref sig .tc := ⟨.hbm, 44, rfl⟩
abbrev main_v17_1 : Ref sig .tc := ⟨.hbm, 45, rfl⟩
abbrev main_v17_2 : Ref sig .tc := ⟨.hbm, 46, rfl⟩
abbrev main_v17_3 : Ref sig .tc := ⟨.hbm, 47, rfl⟩
abbrev main_v17_4 : Ref sig .tc := ⟨.hbm, 48, rfl⟩
abbrev main_v17_5 : Ref sig .tc := ⟨.hbm, 49, rfl⟩
abbrev main_while0c_c_9 : Ref sig .tc := ⟨.hbm, 50, rfl⟩
abbrev main_while0c_v32 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_v0 : Ref sig .tc := ⟨.hbm, 54, rfl⟩
abbrev main_while0b_v32 : Ref sig .tc := ⟨.hbm, 55, rfl⟩
abbrev main_while0b_call2_c : Ref sig .tc := ⟨.hbm, 56, rfl⟩
abbrev main_while0b_call2_v0 : Ref sig .tc := ⟨.hbm, 57, rfl⟩
abbrev main_while0b_v33 : Ref sig .tc := ⟨.hbm, 58, rfl⟩
abbrev main_while0b_call3_c : Ref sig .tc := ⟨.hbm, 59, rfl⟩
abbrev main_while0b_call3_v0 : Ref sig .tc := ⟨.hbm, 60, rfl⟩
abbrev main_while0b_v34 : Ref sig .tc := ⟨.hbm, 61, rfl⟩
abbrev main_while0b_v35 : Ref sig .tc := ⟨.hbm, 62, rfl⟩
abbrev main_while0b_v36 : Ref sig .tc := ⟨.hbm, 63, rfl⟩
abbrev main_while0b_v37 : Ref sig .tc := ⟨.hbm, 64, rfl⟩
abbrev main_while0b_v38 : Ref sig .tc := ⟨.hbm, 65, rfl⟩
abbrev main_while0b_v39 : Ref sig .tc := ⟨.hbm, 66, rfl⟩
abbrev main_while0b_v40 : Ref sig .tc := ⟨.hbm, 67, rfl⟩
abbrev main_while0b_v41 : Ref sig .tc := ⟨.hbm, 68, rfl⟩
abbrev main_while0b_v42 : Ref sig .tc := ⟨.hbm, 69, rfl⟩
abbrev main_while0b_v43 : Ref sig .tc := ⟨.hbm, 70, rfl⟩
abbrev main_while0b_v44 : Ref sig .tc := ⟨.hbm, 71, rfl⟩
abbrev main_while0b_v45 : Ref sig .tc := ⟨.hbm, 72, rfl⟩
abbrev main_while0b_v46 : Ref sig .tc := ⟨.hbm, 73, rfl⟩
abbrev main_while0b_v47 : Ref sig .tc := ⟨.hbm, 74, rfl⟩
abbrev main_while0b_v48 : Ref sig .tc := ⟨.hbm, 75, rfl⟩
abbrev main_while0b_v49 : Ref sig .tc := ⟨.hbm, 76, rfl⟩
abbrev main_while0b_v50 : Ref sig .tc := ⟨.hbm, 77, rfl⟩
abbrev main_while0b_v51 : Ref sig .tc := ⟨.hbm, 78, rfl⟩
abbrev main_while0b_v52 : Ref sig .tc := ⟨.hbm, 79, rfl⟩
abbrev main_while0b_v53 : Ref sig .tc := ⟨.hbm, 80, rfl⟩
abbrev main_while0b_v54 : Ref sig .tc := ⟨.hbm, 81, rfl⟩
abbrev main_while0b_v55 : Ref sig .tc := ⟨.hbm, 82, rfl⟩
abbrev main_while0b_v56 : Ref sig .tc := ⟨.hbm, 83, rfl⟩
abbrev main_while0b_v57 : Ref sig .tc := ⟨.hbm, 84, rfl⟩
abbrev main_while0b_v58 : Ref sig .tc := ⟨.hbm, 85, rfl⟩
abbrev main_while0b_v59 : Ref sig .tc := ⟨.hbm, 86, rfl⟩
abbrev main_while0b_v60 : Ref sig .tc := ⟨.hbm, 87, rfl⟩
abbrev main_while0b_v61 : Ref sig .tc := ⟨.hbm, 88, rfl⟩
abbrev main_while0b_cst_9 : Ref sig .tc := ⟨.hbm, 89, rfl⟩
abbrev main_while0b_v62 : Ref sig .tc := ⟨.hbm, 90, rfl⟩
abbrev main_while0b_cst_10 : Ref sig .tc := ⟨.hbm, 91, rfl⟩
abbrev main_while0b_v63 : Ref sig .tc := ⟨.hbm, 92, rfl⟩
abbrev main_while0b_v64 : Ref sig .tc := ⟨.hbm, 93, rfl⟩
abbrev main_while0b_c_11 : Ref sig .tc := ⟨.hbm, 94, rfl⟩
abbrev main_while0b_call5_v0 : Ref sig .tc := ⟨.hbm, 95, rfl⟩
abbrev main_while0b_call5_v1 : Ref sig .tc := ⟨.hbm, 96, rfl⟩
abbrev main_while0b_v65 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_cst_12 : Ref sig .tc := ⟨.hbm, 102, rfl⟩
abbrev main_while0b_v70 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_c_13 : Ref sig .tc := ⟨.hbm, 107, rfl⟩
abbrev main_while0b_v74 : Ref sig .tc := ⟨.hbm, 108, rfl⟩
abbrev main_v18 : Ref sig .tc := ⟨.hbm, 109, rfl⟩
abbrev main_v19 : Ref sig .tc := ⟨.hbm, 110, rfl⟩
abbrev main_v20 : Ref sig .tc := ⟨.hbm, 111, rfl⟩
abbrev main_cst : Ref sig .tc := ⟨.hbm, 112, rfl⟩
abbrev main_v21 : Ref sig .tc := ⟨.hbm, 113, rfl⟩
abbrev main_cst_1 : Ref sig .tc := ⟨.hbm, 114, rfl⟩
abbrev main_v22 : Ref sig .tc := ⟨.hbm, 115, rfl⟩
abbrev main_c_2 : Ref sig .tc := ⟨.hbm, 116, rfl⟩
abbrev main_call6_v0 : Ref sig .tc := ⟨.hbm, 117, rfl⟩
abbrev main_v23 : Ref sig .tc := ⟨.hbm, 118, rfl⟩
abbrev main_v24 : Ref sig .tc := ⟨.hbm, 119, rfl⟩
abbrev main_v25 : Ref sig .tc := ⟨.hbm, 120, rfl⟩
abbrev main_v26 : Ref sig .tc := ⟨.hbm, 121, rfl⟩
abbrev main_cst_3 : Ref sig .tc := ⟨.hbm, 122, rfl⟩
abbrev main_v27 : Ref sig .tc := ⟨.hbm, 123, rfl⟩
abbrev main_v28 : Ref sig .tc := ⟨.hbm, 124, rfl⟩
abbrev main_v29 : Ref sig .tc := ⟨.hbm, 125, rfl⟩
abbrev main_v30 : Ref sig .tc := ⟨.hbm, 126, rfl⟩
abbrev main_v31 : Ref sig .tc := ⟨.hbm, 127, rfl⟩

abbrev nD : Nat := 1
abbrev τ : Topo := Topo.v7x

variable {F : FTy → Type} [FloatOps F]

abbrev main_while0_count : Scf.Loop 32 := ⟨0#32, 65535#32, 1#32⟩
-- ==== Proof.Frames.lean ====
/- Hand-written. The claims that say nothing about values: the two kernels and the reference run to their end with
   their arguments unchanged and every semaphore back at zero, and the one renamed constant is `ln 2` rounded. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

theorem kernel_frame : Cert.quiescent_Kernel (hKernel := Cert.Kernel.Gen.facts) :=
  fun m ρ _ => Cert.Kernel.Gen.frame m ρ

theorem ideal_frame : Cert.quiescent_KernelIdeal (hKernelIdeal := Cert.KernelIdeal.Gen.facts) :=
  fun m ρ _ => Cert.KernelIdeal.Gen.frame m ρ

theorem reference_frame : Cert.quiescent_ReferenceIdeal (hReferenceIdeal := Cert.ReferenceIdeal.Gen.facts) :=
  fun m ρ _ =>
    (θ_run Cert.ReferenceIdeal.defs _ _).mono
      (fun r h => ⟨fun c => (h c).2, Idealize.ShloMosaic.sem_eq_zero_of_no_sems (by decide) r.2⟩)
      (Cert.ReferenceIdeal.Value.run (F := Ideal) m ρ)

theorem ln2_named : Cert.preserves_Kernel_KernelIdeal :=
  IdealRules.named_const.statement Cert.KernelIdeal.κ "ln2" .f32 0x3F317218#32 ((Real.log 2 : ℝ) : EReal) rfl

end Cert.Proof

end
-- ==== Proof.Reals.lean ====
/- Hand-written. The forward recursion over the reals: one step, and eight steps at once in the form the kernel
   computes them (the eight inner sums first, from one triangular recurrence; then the new row). -/
module

public import Idealize.ShloMosaic.Init
public import Mathlib.Analysis.SpecialFunctions.Exp
public import Mathlib.Algebra.BigOperators.Fin
public import Mathlib.Tactic.Ring
public import Mathlib.Tactic.Linarith
public import Mathlib.Tactic.Positivity
public import Mathlib.Data.EReal.Operations

@[expose] public section

noncomputable section

namespace Cert.Hmm

open scoped BigOperators

/-- The row of 64 option weights. -/
abbrev Row := Fin 64 → ℝ

/-- The mass that ends its option: `Σ F b`. -/
def mass (F b : Row) : ℝ := ∑ i, F i * b i

/-- One step of the recursion, in weights: `b` end, `e` start, `q` go on (the action's weight in `e` and `q`). -/
def stepRow (F b e q : Row) : Row := fun l => mass F b * e l + F l * q l

/-- `n` steps from `F`, by the rows `b 0, b 1, …`. -/
def steps (b e q : ℕ → Row) (F : Row) : ℕ → Row
  | 0 => F
  | n + 1 => stepRow (steps b e q F n) (b n) (e n) (q n)

theorem steps_add (b e q : ℕ → Row) (F : Row) (m n : ℕ) :
    steps b e q F (m + n) = steps (fun i => b (m + i)) (fun i => e (m + i)) (fun i => q (m + i)) (steps b e q F m) n := by
  induction n with
  | zero => rfl
  | succ n ih => rw [show m + (n + 1) = (m + n) + 1 from rfl, steps, steps, ih]

theorem steps_congr {b e q b' e' q' : ℕ → Row} (F : Row) (n : ℕ)
    (h : ∀ i < n, b i = b' i ∧ e i = e' i ∧ q i = q' i) : steps b e q F n = steps b' e' q' F n := by
  induction n with
  | zero => rfl
  | succ n ih =>
    obtain ⟨h1, h2, h3⟩ := h n (Nat.lt_succ_self n)
    rw [steps, steps, ih fun i hi => h i (Nat.lt_succ_of_lt hi), h1, h2, h3]

theorem mass_scale (F b : Row) (c : ℝ) : mass (fun l => F l * c) b = mass F b * c := by
  rw [mass, mass, Finset.sum_mul]; exact Finset.sum_congr rfl fun i _ => by ring

theorem stepRow_scale (F b e q : Row) (c : ℝ) :
    stepRow (fun l => F l * c) b e q = fun l => stepRow F b e q l * c := by
  funext l; rw [stepRow, stepRow, mass_scale]; ring

theorem steps_scale (b e q : ℕ → Row) (F : Row) (c : ℝ) (n : ℕ) :
    steps b e q (fun l => F l * c) n = fun l => steps b e q F n l * c := by
  induction n with
  | zero => rfl
  | succ n ih => rw [steps, ih, stepRow_scale]; rfl

/-! ### Eight steps at once -/

section Eight

variable (b e q : ℕ → Row) (F : Row)

/-- The mass of step `r`. -/
def ms (r : ℕ) : ℝ := mass (steps b e q F r) (b r)

theorem steps_succ_apply (r : ℕ) (l : Fin 64) :
    steps b e q F (r + 1) l = ms b e q F r * e r l + steps b e q F r l * q r l := rfl

/-- What row `i` started reaches step `j` with, summed over the lanes: `Σ e_i q_{i+1} ⋯ q_{j-1} b_j`. -/
def reach (i j : ℕ) : ℝ := ∑ l, e i l * (∏ u ∈ Finset.Ico (i + 1) j, q u l) * b j l

/-- The mass of step `j` that never ended before: `Σ F q_0 ⋯ q_{j-1} b_j`. -/
def direct (j : ℕ) : ℝ := ∑ l, F l * ((∏ u ∈ Finset.range j, q u l) * b j l)

theorem steps_eq (n : ℕ) (l : Fin 64) :
    steps b e q F n l = F l * (∏ u ∈ Finset.range n, q u l)
      + ∑ i ∈ Finset.range n, ms b e q F i * (e i l * ∏ u ∈ Finset.Ico (i + 1) n, q u l) := by
  induction n with
  | zero => simp [steps]
  | succ n ih =>
    rw [steps_succ_apply, ih, Finset.prod_range_succ, Finset.sum_range_succ, Finset.Ico_self, Finset.prod_empty,
      add_mul, Finset.sum_mul]
    have : ∀ i ∈ Finset.range n, ms b e q F i * (e i l * ∏ u ∈ Finset.Ico (i + 1) (n + 1), q u l)
        = ms b e q F i * (e i l * ∏ u ∈ Finset.Ico (i + 1) n, q u l) * q n l := fun i hi => by
      rw [Finset.prod_Ico_succ_top (by have := Finset.mem_range.mp hi; omega)]; ring
    rw [Finset.sum_congr rfl this]
    ring

theorem ms_eq (j : ℕ) : ms b e q F j = direct b q F j + ∑ i ∈ Finset.range j, reach b e q i j * ms b e q F i := by
  have h : ∀ l ∈ (Finset.univ : Finset (Fin 64)), steps b e q F j l * b j l = F l * ((∏ u ∈ Finset.range j, q u l) * b j l)
      + ∑ i ∈ Finset.range j, e i l * (∏ u ∈ Finset.Ico (i + 1) j, q u l) * b j l * ms b e q F i := fun l _ => by
    rw [steps_eq, add_mul, Finset.sum_mul, mul_assoc]
    congr 1
    exact Finset.sum_congr rfl fun i _ => by ring
  rw [ms, mass, Finset.sum_congr rfl h, Finset.sum_add_distrib, Finset.sum_comm]
  refine congrArg₂ _ rfl (Finset.sum_congr rfl fun i _ => ?_)
  rw [reach, Finset.sum_mul]

end Eight

end Cert.Hmm

end
-- ==== Proof.Macro.lean ====
/- Hand-written. One trip of the kernel's loop — eight steps of the recursion at once — read at an index: with the
   operands real numbers, every vector of the trip is one of Reals.lean's, up to the power of two of the last. -/
module

public import proofs.«01_k».proof.Defs
public import proofs.«01_k».proof.Proof.Reals
public import proofs.«01_k».proof.Proof.Gen.KernelIdeal.Skeleton
public import Idealize.ShloMosaic.Lib.Pointwise
public import Idealize.ShloMosaic.Init

@[expose] public section

set_option maxRecDepth 16384

noncomputable section

namespace Cert.Hmm

open Idealize.ShloMosaic Cert.KernelIdeal Cert.KernelIdeal.Gen

theorem coe_sum {ι : Type} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

theorem neg_inf : Ideal.ofBits FTy.f32 0xFF800000#32 = ⊥ := by simp [Ideal.ofBits, Ideal.ieee]

/-- Which of `2^-126 … 2^127` and infinity the absolute value of `x` is not below, counted, less 127: the exponent of `x` as
    the kernel counts it. -/
def expWord (x : EReal) : BitVec 32 :=
  IntOp.subi
    (Finset.fold IntOp.addi (0#32)
      (fun k : Fin 255 =>
        if (FloatOps.absf (F := Ideal) (φ := .f32) x : EReal) < Ideal.ofBits FTy.f32 (IntOp.shli ArithUnit.vector (IntOp.addi (BitVec.ofNat 32 k) 1#32) 23#32) then 0#32
        else 1#32)
      Finset.univ)
    127#32

/-- The power of two with that exponent negated, as the kernel makes it. -/
def scaleOf (x : EReal) : EReal :=
  Ideal.ofBits FTy.f32 (IntOp.shli ArithUnit.vector (IntOp.subi (127#32) (expWord x)) 23#32)

section Trip

variable (b e q : ℕ → Row) (f : Row)
variable (v50 v52 v54 : Vec Ideal S8x64 .f32) (A : Vec Ideal S1x64 .f32)
variable (hB : ∀ (r : Fin 8) l, v50 (ix2 r l) = ((b r l : ℝ) : EReal))
variable (hE : ∀ (r : Fin 8) l, v52 (ix2 r l) = ((e r l : ℝ) : EReal))
variable (hQ : ∀ (r : Fin 8) l, v54 (ix2 r l) = ((q r l : ℝ) : EReal))
variable (hA : ∀ l, A (ix2 0 l) = ((f l : ℝ) : EReal))

include hB hQ in
theorem before_apply (r : Fin 8) (l : Fin 64) :
    k0_pay17 (F := Ideal) v50 v54 (ix2 r l) = (((∏ u ∈ Finset.range r, q u l) * b r l : ℝ) : EReal) := by
  pointwise [k0_pay17, k0_pay16]
  fin_vals r with hk
  all_goals
    simp only [hk, hB, hQ, Nat.reduceSub, Nat.reduceLT, ↓reduceDIte, ← EReal.coe_one, ← EReal.coe_mul,
      Finset.prod_range_succ, Finset.prod_range_zero, EReal.coe_eq_coe_iff]
  all_goals ring

include hQ in
theorem after_apply (r : Fin 8) (l : Fin 64) :
    k0_pay18 (F := Ideal) v54 (ix2 r l) = ((∏ u ∈ Finset.Ico ((r : ℕ) + 1) 8, q u l : ℝ) : EReal) := by
  pointwise [k0_pay18, k0_pay16]
  fin_vals r with hk
  all_goals
    simp only [hk, hQ, Nat.reduceSub, Nat.reduceAdd, Nat.reduceLT, ↓reduceDIte, ← EReal.coe_one, ← EReal.coe_mul,
      Finset.prod_Ico_eq_prod_range, Finset.prod_range_succ, Finset.prod_range_zero, EReal.coe_eq_coe_iff]
  all_goals ring

/-- The pair of steps a row of the 28 reaches between: its first step. -/
def fromStep : Fin 28 → ℕ :=
  ![0, 1, 2, 3, 4, 5, 6, 0, 1, 2, 3, 4, 5, 0, 1, 2, 3, 4, 0, 1, 2, 3, 0, 1, 2, 0, 1, 0]

/-- And its second. -/
def toStep : Fin 28 → ℕ :=
  ![1, 2, 3, 4, 5, 6, 7, 2, 3, 4, 5, 6, 7, 3, 4, 5, 6, 7, 4, 5, 6, 7, 5, 6, 7, 6, 7, 7]

/-- The 28 rows of one trip. -/
abbrev reaches : FVec Ideal S28x1 .f32 :=
  k0_pay26 (F := Ideal) v50 v54 (k0_pay22 v50 v52) (k0_pay24 v50 v52 v54) (k0_pay25 v52 v54)

include hB hE hQ in
theorem reaches_apply (n : Fin 28) :
    reaches v50 v52 v54 (ix2 n 0) = ((reach b e q (fromStep n) (toStep n) : ℝ) : EReal) := by
  rw [reach, ← coe_sum]
  pointwise [reaches, k0_pay26, k0_pay22, k0_pay24, k0_pay25, k0_pay23, k0_pay21]
  refine Finset.sum_congr rfl fun l _ => ?_
  obtain ⟨n, hn⟩ := n
  interval_cases n
  all_goals
    simp only [hB, hE, hQ, fromStep, toStep, Nat.reduceSub, Nat.reduceAdd, Nat.reduceLT, ↓reduceDIte, ← EReal.coe_mul,
      Finset.prod_Ico_eq_prod_range, Finset.prod_range_succ, Finset.prod_range_zero, EReal.coe_eq_coe_iff,
      Nat.reduceSucc, Fin.reduceFinMk, Fin.coe_ofNat_eq_mod, Nat.reduceMod, Matrix.cons_val]
  all_goals ring

include hA in
theorem directs_apply (U : FVec Ideal S8x64 .f32)
    (hU : ∀ (r : Fin 8) l, U (ix2 r l) = (((∏ u ∈ Finset.range r, q u l) * b r l : ℝ) : EReal)) (r : Fin 8) :
    k0_pay27 (F := Ideal) A U (ix2 r 0) = ((direct b q f r : ℝ) : EReal) := by
  rw [direct, ← coe_sum]
  pointwise [k0_pay27]
  exact Finset.sum_congr rfl fun l _ => by rw [hA, hU, ← EReal.coe_mul]

/-! The eight masses, one after the other. -/

section Masses

variable (U : FVec Ideal S8x64 .f32) (v93 : FVec Ideal S7x64 .f32) (v98 : FVec Ideal S6x64 .f32) (v101 : FVec Ideal S5x64 .f32)
variable (hR : ∀ n, k0_pay26 (F := Ideal) v50 v54 v93 v98 v101 (ix2 n 0) = ((reach b e q (fromStep n) (toStep n) : ℝ) : EReal))
variable (hD : ∀ r : Fin 8, k0_pay27 (F := Ideal) A U (ix2 r 0) = ((direct b q f r : ℝ) : EReal))

include hD in
theorem mass0_apply : k0_pay28 (F := Ideal) A U (ix2 0 0) = ((ms b e q f 0 : ℝ) : EReal) := by
  pointwise [k0_pay28]
  rw [hD, ms_eq, Finset.range_zero, Finset.sum_empty, add_zero]
  rfl

include hR hD in
theorem mass1_apply : k0_pay29 (F := Ideal) A v50 v54 U v93 v98 v101 (ix2 0 0) = ((ms b e q f 1 : ℝ) : EReal) := by
  pointwise [k0_pay29]
  rw [mass0_apply b e q f A U hD, hD, hR, ms_eq b e q f 1]
  simp only [Finset.sum_range_succ, Finset.sum_range_zero, zero_add, EReal.coe_add, EReal.coe_mul]
  rfl

include hR hD in
theorem mass2_apply : k0_pay30 (F := Ideal) A v50 v54 U v93 v98 v101 (ix2 0 0) = ((ms b e q f 2 : ℝ) : EReal) := by
  pointwise [k0_pay30]
  rw [mass0_apply b e q f A U hD, mass1_apply b e q f v50 v54 A U v93 v98 v101 hR hD, hD, hR, hR, ms_eq b e q f 2]
  simp only [Finset.sum_range_succ, Finset.sum_range_zero, zero_add, EReal.coe_add, EReal.coe_mul, ← add_assoc]
  rfl

include hR hD in
theorem mass3_apply : k0_pay31 (F := Ideal) A v50 v54 U v93 v98 v101 (ix2 0 0) = ((ms b e q f 3 : ℝ) : EReal) := by
  pointwise [k0_pay31]
  rw [mass0_apply b e q f A U hD, mass1_apply b e q f v50 v54 A U v93 v98 v101 hR hD,
    mass2_apply b e q f v50 v54 A U v93 v98 v101 hR hD, hD, hR, hR, hR, ms_eq b e q f 3]
  simp only [Finset.sum_range_succ, Finset.sum_range_zero, zero_add, EReal.coe_add, EReal.coe_mul, ← add_assoc]
  rfl

/-- What the fourth mass has of the first two. -/
def mass4Part : ℝ := direct b q f 4 + reach b e q 0 4 * ms b e q f 0 + reach b e q 1 4 * ms b e q f 1

include hR hD in
theorem mass4Part_apply : k0_pay32 (F := Ideal) A v50 v54 U v93 v98 v101 (ix2 0 0) = ((mass4Part b e q f : ℝ) : EReal) := by
  pointwise [k0_pay32]
  rw [mass0_apply b e q f A U hD, mass1_apply b e q f v50 v54 A U v93 v98 v101 hR hD, hD, hR, hR, mass4Part]
  simp only [EReal.coe_add, EReal.coe_mul]
  rfl

end Masses

section MassesUp

variable (v126 : FVec Ideal S28x1 .f32) (v130 : FVec Ideal S8x1 .f32)
  (v131 v135 v142 v152 v159 v165 v181 v200 v219 : FVec Ideal S1x1 .f32)
variable (hR : ∀ n, v126 (ix2 n 0) = ((reach b e q (fromStep n) (toStep n) : ℝ) : EReal))
variable (hD : ∀ r : Fin 8, v130 (ix2 r 0) = ((direct b q f r : ℝ) : EReal))
variable (h0 : v131 (ix2 0 0) = ((ms b e q f 0 : ℝ) : EReal)) (h1 : v135 (ix2 0 0) = ((ms b e q f 1 : ℝ) : EReal))
variable (h2 : v142 (ix2 0 0) = ((ms b e q f 2 : ℝ) : EReal)) (h3 : v152 (ix2 0 0) = ((ms b e q f 3 : ℝ) : EReal))
variable (h4' : v159 (ix2 0 0) = ((mass4Part b e q f : ℝ) : EReal))

include hR h2 h3 h4' in
theorem mass4_apply : k0_pay33 (F := Ideal) v126 v142 v152 v159 (ix2 0 0) = ((ms b e q f 4 : ℝ) : EReal) := by
  pointwise [k0_pay33]
  rw [hR, hR, h2, h3, h4', mass4Part, ms_eq b e q f 4]
  simp only [Finset.sum_range_succ, Finset.sum_range_zero, zero_add, EReal.coe_add, EReal.coe_mul, ← add_assoc]
  rfl

include hR hD h0 h1 h2 h3 h4' in
theorem mass5_apply :
    k0_pay34 (F := Ideal) v126 v130 v131 v135 v142 v152 v159 (ix2 0 0) = ((ms b e q f 5 : ℝ) : EReal) := by
  pointwise [k0_pay34]
  rw [mass4_apply b e q f v126 v142 v152 v159 hR h2 h3 h4', hR, hR, hR, hR, hR, hD, h0, h1, h2, h3, ms_eq b e q f 5]
  simp only [Finset.sum_range_succ, Finset.sum_range_zero, zero_add, EReal.coe_add, EReal.coe_mul, ← add_assoc]
  rfl

include hR hD h0 h1 h2 h3 h4' in
theorem mass6_apply :
    k0_pay35 (F := Ideal) v126 v130 v131 v135 v142 v152 v159 (ix2 0 0) = ((ms b e q f 6 : ℝ) : EReal) := by
  pointwise [k0_pay35]
  rw [mass4_apply b e q f v126 v142 v152 v159 hR h2 h3 h4',
    mass5_apply b e q f v126 v130 v131 v135 v142 v152 v159 hR hD h0 h1 h2 h3 h4', hR, hR, hR, hR, hR, hR, hD, h0, h1, h2, h3,
    ms_eq b e q f 6]
  simp only [Finset.sum_range_succ, Finset.sum_range_zero, zero_add, EReal.coe_add, EReal.coe_mul, ← add_assoc]
  rfl

/-- What the last mass has of all but the one before it. -/
def mass7Part : ℝ :=
  direct b q f 7 + reach b e q 0 7 * ms b e q f 0 + reach b e q 1 7 * ms b e q f 1 + reach b e q 2 7 * ms b e q f 2
    + reach b e q 3 7 * ms b e q f 3 + reach b e q 4 7 * ms b e q f 4 + reach b e q 5 7 * ms b e q f 5

include hR hD h0 h1 h2 h3 h4' in
theorem mass7Part_apply :
    k0_pay36 (F := Ideal) v126 v130 v131 v135 v142 v152 v159 (ix2 0 0) = ((mass7Part b e q f : ℝ) : EReal) := by
  pointwise [k0_pay36]
  rw [mass4_apply b e q f v126 v142 v152 v159 hR h2 h3 h4',
    mass5_apply b e q f v126 v130 v131 v135 v142 v152 v159 hR hD h0 h1 h2 h3 h4', hR, hR, hR, hR, hR, hR, hD, h0, h1, h2, h3,
    mass7Part]
  simp only [EReal.coe_add, EReal.coe_mul]
  rfl

variable (h4 : v165 (ix2 0 0) = ((ms b e q f 4 : ℝ) : EReal)) (h5 : v181 (ix2 0 0) = ((ms b e q f 5 : ℝ) : EReal))
variable (h6 : v200 (ix2 0 0) = ((ms b e q f 6 : ℝ) : EReal)) (h7' : v219 (ix2 0 0) = ((mass7Part b e q f : ℝ) : EReal))

include hR h6 h7' in
theorem mass7_apply : k0_pay1 (F := Ideal) v126 v200 v219 (ix2 0 0) = ((ms b e q f 7 : ℝ) : EReal) := by
  pointwise [k0_pay1]
  rw [hR, h6, h7', mass7Part, ms_eq b e q f 7]
  simp only [Finset.sum_range_succ, Finset.sum_range_zero, zero_add, EReal.coe_add, EReal.coe_mul, ← add_assoc]
  rfl

include hR h6 h7' in
theorem exponent_apply :
    k0_pay2 (F := Ideal) v126 v200 v219 (ix2 0 0) = expWord ((ms b e q f 7 : ℝ) : EReal) := by
  have h := mass7_apply b e q f v126 v200 v219 hR h6 h7'
  pointwise [k0_pay2]
  rw [h]
  rfl

include hR h6 h7' in
theorem exponents_apply (E : Vec Ideal S1x1 .i32) :
    k0_pay4 (F := Ideal) E v126 v200 v219 (ix2 0 0) = IntOp.addi (E (ix2 0 0)) (expWord ((ms b e q f 7 : ℝ) : EReal)) := by
  have h := exponent_apply b e q f v126 v200 v219 hR h6 h7'
  pointwise [k0_pay4]
  rw [h]

variable (V : FVec Ideal S8x64 .f32) (W : FVec Ideal S1x64 .f32)
variable (hV : ∀ (r : Fin 8) l, V (ix2 r l) = ((e r l * ∏ u ∈ Finset.Ico ((r : ℕ) + 1) 8, q u l : ℝ) : EReal))
variable (hW : ∀ l, W (ix2 0 l) = ((∏ u ∈ Finset.range 8, q u l : ℝ) : EReal))

include hA hR h0 h1 h2 h3 h4 h5 h6 h7' hV hW in
/-- The trip's new row: eight steps on, times the power of two. -/
theorem row_apply (l : Fin 64) :
    k0_pay3 (F := Ideal) A V W v126 v131 v135 v142 v152 v165 v181 v200 v219 (ix2 0 l)
      = ((steps b e q f 8 l : ℝ) : EReal) * scaleOf ((ms b e q f 7 : ℝ) : EReal) := by
  have h := exponent_apply b e q f v126 v200 v219 hR h6 h7'
  have h7 := mass7_apply b e q f v126 v200 v219 hR h6 h7'
  pointwise [k0_pay3]
  rw [h, scaleOf]
  refine congrArg (· * _) ?_
  rw [steps_eq, EReal.coe_add, EReal.coe_mul, hA, hW]
  refine congrArg₂ _ rfl ?_
  rw [Finset.sum_range, ← coe_sum]
  refine Finset.sum_congr rfl fun r _ => ?_
  rw [hV, mul_comm, EReal.coe_mul (ms b e q f r)]
  refine congrArg (fun z : EReal => z * ((e r l * ∏ u ∈ Finset.Ico ((r : ℕ) + 1) 8, q u l : ℝ) : EReal)) ?_
  fin_vals r with hk
  all_goals simp only [hk, Nat.reduceSub, Nat.reduceLT, ↓reduceDIte]
  exacts [h0, h1, h2, h3, h4, h5, h6, h7]

end MassesUp

include hE hQ in
theorem started_apply (r : Fin 8) (l : Fin 64) :
    k0_pay19 (F := Ideal) v52 v54 (ix2 r l) = ((e r l * ∏ u ∈ Finset.Ico ((r : ℕ) + 1) 8, q u l : ℝ) : EReal) := by
  have h := after_apply q v54 hQ r l
  pointwise [k0_pay19]
  rw [hE, h, EReal.coe_mul]

include hQ in
theorem through_apply (l : Fin 64) :
    k0_pay20 (F := Ideal) v54 (ix2 0 l) = ((∏ u ∈ Finset.range 8, q u l : ℝ) : EReal) := by
  pointwise [k0_pay20, k0_pay18, k0_pay16]
  simp only [hQ, ← EReal.coe_mul, Finset.prod_range_succ, Finset.prod_range_zero, EReal.coe_eq_coe_iff]
  simp only [Fin.coe_ofNat_eq_mod, Nat.reduceMod]
  ring

end Trip

end Cert.Hmm

end
-- ==== Proof.Exponent.lean ====
/- Hand-written. The exponent the kernel counts and the power of two it scales by, at a real number below `2^127`:
   the scale is the reciprocal of the power of two the count names, and brings the number below 2. -/
module

public import proofs.«01_k».proof.Proof.Macro
public import Mathlib.Tactic.NormNum
public import Mathlib.Algebra.Order.Field.Power

@[expose] public section

set_option maxRecDepth 16384

noncomputable section

namespace Cert.Hmm

open Idealize.ShloMosaic

/-- A pattern that is an exponent field alone: the power of two of the exponent less the bias. -/
theorem ofBits_field (n : ℕ) (h1 : 1 ≤ n) (h2 : n ≤ 254) (w : BitVec 32) (hw : w = BitVec.ofNat 32 n) :
    Ideal.ofBits FTy.f32 (IntOp.shli ArithUnit.vector w 23#32) = (((2 : ℝ) ^ ((n : ℤ) - 127) : ℝ) : EReal) := by
  have key : ∀ k : Fin 255, ((IntOp.shli ArithUnit.vector (BitVec.ofNat 32 k) 23#32).extractLsb' 31 1 = 0#1)
      ∧ ((IntOp.shli ArithUnit.vector (BitVec.ofNat 32 k) 23#32).extractLsb' 23 8).toNat = k
      ∧ ((IntOp.shli ArithUnit.vector (BitVec.ofNat 32 k) 23#32).extractLsb' 0 23).toNat = 0 := by decide +kernel
  obtain ⟨ka, kb, kc⟩ := key ⟨n, by omega⟩
  subst hw
  revert ka kb kc
  generalize IntOp.shli ArithUnit.vector (BitVec.ofNat 32 n) 23#32 = w
  intro ka kb kc
  change Ideal.ieee 8 23 w = _
  unfold Ideal.ieee
  simp only [Nat.reduceAdd, ka, kb, kc]
  rw [if_neg (by omega), if_neg (by omega)]
  congr 1
  norm_num
  rw [show (8388608 : ℝ) = (2 : ℝ) ^ (23 : ℤ) by norm_num, ← zpow_add₀ (by norm_num)]
  congr 1
  ring

/-- The pattern that is the last exponent field alone: infinity. -/
theorem ofBits_last (w : BitVec 32) (hw : w = 255#32) : Ideal.ofBits FTy.f32 (IntOp.shli ArithUnit.vector w 23#32) = ⊤ := by
  subst hw
  rw [show IntOp.shli ArithUnit.vector 255#32 23#32 = 0x7F800000#32 by decide]
  simp [Ideal.ofBits, Ideal.ieee]

theorem absf_real (s : ℝ) (h : 0 ≤ s) : (FloatOps.absf (F := Ideal) (φ := .f32) (s : EReal) : EReal) = (s : EReal) := by
  show max (s : EReal) (-(s : EReal)) = _
  rw [← EReal.coe_neg]
  exact max_eq_left (by exact_mod_cast (neg_nonpos.mpr h).trans h)

theorem fold_count {ι : Type} (p : ι → Prop) [DecidablePred p] (S : Finset ι) :
    S.fold IntOp.addi (0#32) (fun k => if p k then 0#32 else 1#32) = BitVec.ofNat 32 (S.filter fun k => ¬p k).card := by
  classical
  induction S using Finset.induction_on with
  | empty => rfl
  | insert a S ha ih =>
    rw [Finset.fold_insert ha, ih, Finset.filter_insert]
    by_cases hp : p a
    · rw [if_pos hp, if_neg (not_not.mpr hp)]
      apply BitVec.eq_of_toNat_eq
      simp only [IntOp.addi, BitVec.toNat_add, BitVec.toNat_ofNat]
      omega
    · rw [if_neg hp, if_pos hp, Finset.card_insert_of_notMem (by simp [ha])]
      apply BitVec.eq_of_toNat_eq
      simp only [IntOp.addi, BitVec.toNat_add, BitVec.toNat_ofNat]
      omega

theorem less_127 : ∀ n : Fin 254, IntOp.subi (BitVec.ofNat 32 n) 127#32 = BitVec.ofInt 32 (((n : ℕ) : ℤ) - 127) := by
  decide +kernel

theorem from_127 : ∀ n : Fin 254, IntOp.subi 127#32 (BitVec.ofInt 32 (((n : ℕ) : ℤ) - 127)) = BitVec.ofNat 32 (254 - n) := by
  decide +kernel

theorem exponent_spec (s : ℝ) (h0 : 0 ≤ s) (h : s < 2 ^ 127) :
    ∃ n : ℕ, n ≤ 253 ∧ expWord (s : EReal) = BitVec.ofInt 32 ((n : ℤ) - 127)
      ∧ scaleOf (s : EReal) = (((2 : ℝ) ^ (127 - (n : ℤ)) : ℝ) : EReal)
      ∧ s < (2 : ℝ) ^ ((n : ℤ) - 126) ∧ (1 ≤ n → (2 : ℝ) ^ ((n : ℤ) - 127) ≤ s) := by
  classical
  have hex : ∃ k : ℕ, s < (2 : ℝ) ^ ((k : ℤ) - 126) := ⟨253, by norm_num at h ⊢; exact h⟩
  let n := Nat.find hex
  have hn : s < (2 : ℝ) ^ ((n : ℤ) - 126) := Nat.find_spec hex
  have hn' : n ≤ 253 := Nat.find_min' hex (by norm_num at h ⊢; exact h)
  have hlow : ∀ k : ℕ, k < n → (2 : ℝ) ^ ((k : ℤ) - 126) ≤ s := fun k hk => not_lt.mp (Nat.find_min hex hk)
  have hcount : ∀ k : Fin 255,
      (s : EReal) < Ideal.ofBits FTy.f32 (IntOp.shli ArithUnit.vector (IntOp.addi (BitVec.ofNat 32 k) 1#32) 23#32)
        ↔ ¬(k : ℕ) < n := fun k => by
    have hk1 : IntOp.addi (BitVec.ofNat 32 (k : ℕ)) 1#32 = BitVec.ofNat 32 ((k : ℕ) + 1) := (BitVec.ofNat_add _ _).symm
    by_cases hk254 : (k : ℕ) = 254
    · rw [ofBits_last _ (hk1.trans (by rw [hk254]))]
      exact ⟨fun _ => by omega, fun _ => EReal.coe_lt_top s⟩
    rw [ofBits_field ((k : ℕ) + 1) (by omega) (by omega) _ hk1, EReal.coe_lt_coe_iff, ← not_le, not_iff_not]
    constructor
    · intro hle
      by_contra hc
      have : (2 : ℝ) ^ ((n : ℤ) - 126) ≤ (2 : ℝ) ^ (((k : ℕ) + 1 : ℕ) - 127 : ℤ) :=
        zpow_le_zpow_right₀ (by norm_num) (by push_cast; omega)
      linarith
    · intro hk
      have := hlow k hk
      rwa [show (((k : ℕ) + 1 : ℕ) - 127 : ℤ) = (k : ℤ) - 126 by push_cast; ring]
  have hw : expWord (s : EReal) = BitVec.ofInt 32 ((n : ℤ) - 127) := by
    unfold expWord
    simp only [absf_real s h0, hcount]
    rw [fold_count (fun k : Fin 255 => ¬(k : ℕ) < n)]
    have hc : (Finset.univ.filter fun k : Fin 255 => ¬¬(k : ℕ) < n).card = n := by
      simp only [not_not]
      rw [Fin.card_filter_val_lt]; omega
    rw [hc]
    exact less_127 ⟨n, by omega⟩
  refine ⟨n, hn', hw, ?_, hn, fun h1 => ?_⟩
  · rw [scaleOf, hw, ofBits_field (254 - n) (by omega) (by omega) _ (from_127 ⟨n, by omega⟩)]
    congr 2
    push_cast [show n ≤ 254 by omega]
    ring
  · have := hlow (n - 1) (by omega)
    rwa [show (((n - 1 : ℕ) : ℤ) - 126) = (n : ℤ) - 127 by omega] at this

end Cert.Hmm

end
-- ==== Proof.Bounds.lean ====
/- Hand-written. The bounds that keep the rescaled recursion inside f32's exponents, and what is carried from one trip to
the next: a row of weights `G` and a power of two `w` with `F = G 2^w`. -/
module

public import proofs.«01_k».proof.Proof.Reals
public import Mathlib.Analysis.SpecialFunctions.Exp

@[expose] public section

noncomputable section

namespace Cert.Hmm

/-- What a rescaled weight stays below. -/
def top : ℝ := 2 * (1 + Real.exp 50)

theorem exp_fifty : Real.exp 50 < (2.72 : ℝ) ^ 50 := by
  have h : Real.exp 50 = Real.exp 1 ^ 50 := by rw [← Real.exp_nat_mul]; norm_num
  rw [h]
  have h1 : Real.exp 1 < 2.72 := by
    refine lt_of_le_of_lt (Real.exp_bound' (x := 1) (by norm_num) le_rfl (n := 8) (by norm_num)) ?_
    norm_num [Finset.sum_range_succ, Nat.factorial]
  exact pow_lt_pow_left₀ h1 (Real.exp_pos 1).le (by norm_num)

theorem top_pos : 0 < top := by unfold top; positivity

/-- The rows of weights: each between 0 and 1, an end's at least `e^-50`. -/
structure Weights (b e q : ℕ → Row) : Prop where
  b0 : ∀ r l, Real.exp (-50) ≤ b r l
  b1 : ∀ r l, b r l ≤ 1
  e0 : ∀ r l, 0 ≤ e r l
  e1 : ∀ r l, e r l ≤ 1
  q0 : ∀ r l, 0 ≤ q r l
  q1 : ∀ r l, q r l ≤ 1

namespace Weights

variable {b e q : ℕ → Row} (h : Weights b e q)

include h

theorem bpos (r : ℕ) (l : Fin 64) : 0 ≤ b r l := (Real.exp_pos _).le.trans (h.b0 r l)

theorem shift (p : ℕ) : Weights (fun r => b (p + r)) (fun r => e (p + r)) (fun r => q (p + r)) :=
  ⟨fun r l => h.b0 _ l, fun r l => h.b1 _ l, fun r l => h.e0 _ l, fun r l => h.e1 _ l, fun r l => h.q0 _ l,
    fun r l => h.q1 _ l⟩

variable {G : Row} (h0 : ∀ l, 0 ≤ G l)

include h0

theorem mass_nonneg (r : ℕ) : 0 ≤ mass G (b r) := Finset.sum_nonneg fun l _ => mul_nonneg (h0 l) (h.bpos r l)

theorem steps_nonneg (n : ℕ) (l : Fin 64) : 0 ≤ steps b e q G n l := by
  induction n generalizing l with
  | zero => exact h0 l
  | succ n ih =>
    exact add_nonneg (mul_nonneg (h.mass_nonneg (fun l => ih l) n) (h.e0 n l)) (mul_nonneg (ih l) (h.q0 n l))

theorem ms_nonneg (r : ℕ) : 0 ≤ ms b e q G r := h.mass_nonneg (h.steps_nonneg h0 r) r

theorem mass_le (r : ℕ) {M : ℝ} (hM : ∀ l, G l ≤ M) : mass G (b r) ≤ 64 * M := by
  calc mass G (b r) ≤ ∑ _l : Fin 64, M := Finset.sum_le_sum fun l _ =>
        (mul_le_of_le_one_right (h0 l) (h.b1 r l)).trans (hM l)
    _ = 64 * M := by simp

theorem steps_le (n : ℕ) {M : ℝ} (hM : ∀ l, G l ≤ M) (l : Fin 64) : steps b e q G n l ≤ 65 ^ n * M := by
  induction n generalizing l with
  | zero => rw [pow_zero, one_mul]; exact hM l
  | succ n ih =>
    have hs := h.steps_nonneg h0 n
    have hm := h.mass_le hs n ih
    have h1 : mass (steps b e q G n) (b n) * e n l ≤ 64 * (65 ^ n * M) :=
      (mul_le_of_le_one_right (h.mass_nonneg hs n) (h.e1 n l)).trans hm
    have h2 : steps b e q G n l * q n l ≤ 65 ^ n * M := (mul_le_of_le_one_right (hs l) (h.q1 n l)).trans (ih l)
    calc steps b e q G (n + 1) l ≤ 64 * (65 ^ n * M) + 65 ^ n * M := add_le_add h1 h2
      _ = 65 ^ (n + 1) * M := by ring

/-- Eight steps from rescaled weights, the last mass is an f32 exponent's. -/
theorem ms_seven_lt (hM : ∀ l, G l ≤ top) : ms b e q G 7 < 2 ^ 127 := by
  have h1 := h.mass_le (h.steps_nonneg h0 7) 7 (h.steps_le h0 7 hM)
  refine lt_of_le_of_lt h1 ?_
  have := exp_fifty
  unfold top
  calc (64 : ℝ) * (65 ^ 7 * (2 * (1 + Real.exp 50))) < 64 * (65 ^ 7 * (2 * (1 + (2.72 : ℝ) ^ 50))) := by gcongr
    _ < 2 ^ 127 := by norm_num

/-- A weight is at most `e^50` times the mass. -/
theorem le_mass (r : ℕ) (l : Fin 64) : G l ≤ mass G (b r) * Real.exp 50 := by
  have h1 : G l * Real.exp (-50) ≤ mass G (b r) :=
    (mul_le_mul_of_nonneg_left (h.b0 r l) (h0 l)).trans
      (Finset.single_le_sum (f := fun l => G l * b r l) (fun i _ => mul_nonneg (h0 i) (h.bpos r i)) (Finset.mem_univ l))
  calc G l = G l * Real.exp (-50) * Real.exp 50 := by
        rw [mul_assoc, ← Real.exp_add]; norm_num
    _ ≤ _ := mul_le_mul_of_nonneg_right h1 (Real.exp_pos _).le

/-- Rescaled by the mass's power of two, eight steps are again below `top`. -/
theorem rescaled_le (n : ℕ) (hs : ms b e q G 7 < (2 : ℝ) ^ ((n : ℤ) - 126)) (l : Fin 64) :
    steps b e q G 8 l * (2 : ℝ) ^ ((127 : ℤ) - n) ≤ top := by
  have hp := h.steps_nonneg h0 7
  have h7 := h.ms_nonneg h0 7
  have h1 : steps b e q G 8 l ≤ ms b e q G 7 * (1 + Real.exp 50) := by
    rw [steps_succ_apply, mul_add, mul_one]
    exact add_le_add (mul_le_of_le_one_right h7 (h.e1 7 l))
      ((mul_le_of_le_one_right (hp l) (h.q1 7 l)).trans (h.le_mass hp 7 l))
  have h2 : ms b e q G 7 * (2 : ℝ) ^ ((127 : ℤ) - n) ≤ 2 := by
    calc ms b e q G 7 * (2 : ℝ) ^ ((127 : ℤ) - n) ≤ (2 : ℝ) ^ ((n : ℤ) - 126) * (2 : ℝ) ^ ((127 : ℤ) - n) := by gcongr
      _ = 2 := by rw [← zpow_add₀ (by norm_num)]; norm_num
  calc steps b e q G 8 l * (2 : ℝ) ^ ((127 : ℤ) - n)
      ≤ ms b e q G 7 * (1 + Real.exp 50) * (2 : ℝ) ^ ((127 : ℤ) - n) := by gcongr
    _ = ms b e q G 7 * (2 : ℝ) ^ ((127 : ℤ) - n) * (1 + Real.exp 50) := by ring
    _ ≤ 2 * (1 + Real.exp 50) := by gcongr

end Weights

/-- What is carried: the weights `T` are `G 2^w`, `G` rescaled, and `w` moved at most `127` each of `k` times. -/
structure Carried (T G : Row) (w : ℤ) (k : ℕ) : Prop where
  pos : ∀ l, 0 ≤ G l
  le : ∀ l, G l ≤ top
  eq : ∀ l, T l = G l * (2 : ℝ) ^ w
  word : |w| ≤ 127 * k

/-- Eight steps on, rescaled. -/
theorem Carried.trip {b e q : ℕ → Row} (h : Weights b e q) {T G : Row} {w : ℤ} {k : ℕ} (hc : Carried T G w k) (n : ℕ)
    (hn : n ≤ 253) (hs : ms b e q G 7 < (2 : ℝ) ^ ((n : ℤ) - 126)) :
    Carried (steps b e q T 8) (fun l => steps b e q G 8 l * (2 : ℝ) ^ ((127 : ℤ) - n)) (w + ((n : ℤ) - 127)) (k + 1) where
  pos l := mul_nonneg (h.steps_nonneg hc.pos 8 l) (by positivity)
  le l := h.rescaled_le hc.pos n hs l
  eq l := by
    rw [show T = fun l => G l * (2 : ℝ) ^ w from funext hc.eq, steps_scale]
    dsimp only
    rw [mul_assoc, ← zpow_add₀ (by norm_num)]
    congr 2
    ring
  word := by
    have := hc.word
    have := abs_le.mp this
    exact abs_le.mpr ⟨by push_cast; omega, by push_cast; omega⟩

end Cert.Hmm

end
-- ==== Proof.Trips.lean ====
/- Hand-written. The kernel's loop over the macro steps: each trip reads eight rows of the three weight arrays and takes
the carried row and exponent eight steps on. -/
module

public import proofs.«01_k».proof.Proof.Macro
public import proofs.«01_k».proof.Proof.Exponent
public import proofs.«01_k».proof.Proof.Bounds
public import proofs.«01_k».proof.Proof.Gen.KernelIdeal.Loops
public import Idealize.ShloMosaic.Lib.Pipeline.ValueKit.Tiles
public import Idealize.ShloMosaic.Lib.LoopRemainder

@[expose] public section

set_option maxRecDepth 16384

noncomputable section

namespace Cert.Hmm

open Idealize.ShloMosaic Idealize.ShloMosaic.TcCoe Cert.KernelIdeal Cert.KernelIdeal.Gen

/-- The first macro step of a grid point: the first point's first eight rows are taken singly. -/
def firstTrip (i : grid0.Coords) : ℕ := if (i 0).val = 0 then 1 else 0

theorem start_word (i : grid0.Coords) :
    Scalar.select (Scalar.cmpi .eq (BitVec.ofNat 32 (i 0).val) 0#32) 1#32 0#32 = BitVec.ofNat 32 (firstTrip i) := by
  have : ∀ n : Fin 256, Scalar.select (Scalar.cmpi .eq (BitVec.ofNat 32 n.val) 0#32) 1#32 0#32
      = BitVec.ofNat 32 (if n.val = 0 then 1 else 0) := by decide +kernel
  exact this (i 0)

theorem loop_trips (i : grid0.Coords) : (k0_t1_loop i).trips = 32 - firstTrip i := by
  unfold k0_t1_loop
  simp only [start_word]
  unfold firstTrip
  split <;> decide +kernel

theorem rest_trips (i : grid0.Coords) : (k0_t2_loop i).trips = 0 := by
  unfold k0_t2_loop
  simp only [start_word]
  unfold firstTrip
  split <;> decide +kernel

theorem offset_word (i : grid0.Coords) (k : Fin (k0_t1_loop i).trips) : k0_off1 i k = ![8 * (firstTrip i + k.val), 0] := by
  have hk : k.val < 32 := lt_of_lt_of_le k.isLt (by rw [loop_trips]; omega)
  have : ∀ a < 2, ∀ n : Fin 32, (Scalar.indexCast (Scalar.muli (Scf.iv (BitVec.ofNat 32 a) 1#32 n.val) 8#32) : Index).toNat
      = 8 * (a + n.val) := by decide +kernel
  unfold k0_off1
  simp only [start_word]
  rw [this (firstTrip i) (by unfold firstTrip; split <;> decide) ⟨k.val, hk⟩]

variable (𝒱 : Variants) (c : Dev nD) (bd : Option 𝒱.V) (i : grid0.Coords)
  (arg1 : Memref sig .tc .vmem S256x64x32 .f32) (harg1 : arg1.IsWhole) (arg2 : Memref sig .tc .vmem S256x1x32 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x1 .f32) (harg7 : arg7.IsWhole) (arg8 : Memref sig .tc .vmem S1x64 .f32) (harg8 : arg8.IsWhole) (arg9 : Memref sig .tc .vmem S1x1 .i32) (harg9 : arg9.IsWhole) (arg10 : Memref sig .tc .vmem S256x64 .f32) (harg10 : arg10.IsWhole) (arg11 : Memref sig .tc .vmem S256x64 .f32) (harg11 : arg11.IsWhole) (arg12 : Memref sig .tc .vmem S256x64 .f32) (harg12 : arg12.IsWhole)
variable (X10 : BufTy.Contents (Elt Ideal) arg10.view.ty) (X11 : BufTy.Contents (Elt Ideal) arg11.view.ty)
  (X12 : BufTy.Contents (Elt Ideal) arg12.view.ty)
variable (b e q : ℕ → Row)
variable (hB : ∀ (t : Fin 256) l, arg10.view.read (Elt Ideal) X10 (ix2 t l) = ((b t l : ℝ) : EReal))
variable (hE : ∀ (t : Fin 256) l, arg11.view.read (Elt Ideal) X11 (ix2 t l) = ((e t l : ℝ) : EReal))
variable (hQ : ∀ (t : Fin 256) l, arg12.view.read (Elt Ideal) X12 (ix2 t l) = ((q t l : ℝ) : EReal))

/-- The eight rows a trip loads. -/
theorem load_row {arg : Memref sig .tc .vmem S256x64 .f32} (X : BufTy.Contents (Elt Ideal) arg.view.ty) (a : ℕ → Row)
    (h : ∀ (t : Fin 256) l, arg.view.read (Elt Ideal) X (ix2 t l) = ((a t l : ℝ) : EReal))
    (k : Fin (k0_t1_loop i).trips) (a' : ℕ → Row) (ha : (fun r => a (8 * (firstTrip i + k.val) + r)) = a')
    (r : Fin 8) (l : Fin 64) :
    (arg.view.readAt (Elt Ideal) (Rect.unit (s := S256x64) (k0_off1 i k) S8x64.size (k0_off1_inb i k)).toLoadRect X
      : Vec Ideal S8x64 .f32) (ix2 r l) = ((a' r l : ℝ) : EReal) := by
  subst ha
  have hk : firstTrip i + k.val < 32 := by
    have := lt_of_lt_of_eq k.isLt (loop_trips i)
    omega
  have ho := offset_word i k
  have h8 : 8 * (firstTrip i + k.val) + r < 256 := by omega
  rw [View.readAt_eq_ld]
  exact (View.ld_unit_apply_of (S := S256x64) _ (k0_off1 i k) S8x64.size (k0_off1_inb i k) (ix2 r l)
    (ix2 ⟨8 * (firstTrip i + k.val) + r, h8⟩ l) (fun j => by
      fin_cases j
      · exact congrArg (· + (r : ℕ)) (congrFun ho 0).symm
      · exact (Nat.zero_add _).symm.trans (congrArg (· + (l : ℕ)) (congrFun ho 1).symm))).trans (h ⟨_, h8⟩ l)

include hB hE hQ in
/-- One trip, eight steps on. -/
theorem trip_carried (hw : Weights b e q) (v29 : BitVec 32) (k : Fin (k0_t1_loop i).trips)
    (acc : Vec Ideal S1x64 .f32 × Vec Ideal S1x1 .i32) (T G : Row) (w : ℤ) (n : ℕ)
    (hF : ∀ l, acc.1 (ix2 0 l) = ((G l : ℝ) : EReal)) (hw2 : acc.2 (ix2 0 0) = BitVec.ofInt 32 w) (hc : Carried T G w n) :
    ∃ (G' : Row) (w' : ℤ),
      (∀ l, (tripR_k0_t1 (F := Ideal) 𝒱 c bd i arg1 harg1 arg2 harg2 arg3 harg3 arg4 harg4 arg5 harg5 arg6 harg6 arg7 harg7 arg8 harg8 arg9 harg9 arg10 harg10 arg11 harg11 arg12 harg12 v29 X10 X11 X12 k acc).1 (ix2 0 l) = ((G' l : ℝ) : EReal))
      ∧ (tripR_k0_t1 (F := Ideal) 𝒱 c bd i arg1 harg1 arg2 harg2 arg3 harg3 arg4 harg4 arg5 harg5 arg6 harg6 arg7 harg7 arg8 harg8 arg9 harg9 arg10 harg10 arg11 harg11 arg12 harg12 v29 X10 X11 X12 k acc).2 (ix2 0 0) = BitVec.ofInt 32 w'
      ∧ Carried (steps (fun r => b (8 * (firstTrip i + k.val) + r)) (fun r => e (8 * (firstTrip i + k.val) + r))
          (fun r => q (8 * (firstTrip i + k.val) + r)) T 8) G' w' (n + 1) := by
  have hsh := hw.shift (8 * (firstTrip i + k.val))
  generalize hbr : (fun r => b (8 * (firstTrip i + k.val) + r)) = b' at hsh ⊢
  generalize her : (fun r => e (8 * (firstTrip i + k.val) + r)) = e' at hsh ⊢
  generalize hqr : (fun r => q (8 * (firstTrip i + k.val) + r)) = q' at hsh ⊢
  have hb := load_row i X10 b hB k b' hbr
  have he := load_row i X11 e hE k e' her
  have hq := load_row i X12 q hQ k q' hqr
  obtain ⟨m, hm, hword, hscale, hlt, -⟩ := exponent_spec (ms b' e' q' G 7) (hsh.ms_nonneg hc.pos 7) (hsh.ms_seven_lt hc.pos hc.le)
  have hR := reaches_apply b' e' q' _ _ _ hb he hq
  have hU := before_apply b' q' _ _ hb hq
  have hD := directs_apply b' q' G acc.1 hF _ hU
  have h0 := mass0_apply b' e' q' G acc.1 _ hD
  have h1 := mass1_apply b' e' q' G _ _ acc.1 _ _ _ _ hR hD
  have h2 := mass2_apply b' e' q' G _ _ acc.1 _ _ _ _ hR hD
  have h3 := mass3_apply b' e' q' G _ _ acc.1 _ _ _ _ hR hD
  have h4' := mass4Part_apply b' e' q' G _ _ acc.1 _ _ _ _ hR hD
  have h4 := mass4_apply b' e' q' G _ _ _ _ hR h2 h3 h4'
  have h5 := mass5_apply b' e' q' G _ _ _ _ _ _ _ hR hD h0 h1 h2 h3 h4'
  have h6 := mass6_apply b' e' q' G _ _ _ _ _ _ _ hR hD h0 h1 h2 h3 h4'
  have h7' := mass7Part_apply b' e' q' G _ _ _ _ _ _ _ hR hD h0 h1 h2 h3 h4'
  have hV := started_apply e' q' _ _ he hq
  have hW := through_apply q' _ hq
  refine ⟨_, _, fun l => ?_, ?_, hc.trip hsh m hm hlt⟩
  · unfold tripR_k0_t1 trip_k0_t1
    dsimp only
    refine (row_apply b' e' q' G acc.1 hF _ _ _ _ _ _ _ _ _ hR h0 h1 h2 h3 h4 h5 h6 h7' _ _ hV hW l).trans ?_
    rw [hscale, ← EReal.coe_mul]
  · unfold tripR_k0_t1 trip_k0_t1
    dsimp only
    refine (exponents_apply b' e' q' G _ _ _ hR h6 h7' _).trans ?_
    rw [hw2, hword]
    exact (BitVec.ofInt_add ..).symm

include hB hE hQ in
/-- The loop, `n` trips in. -/
theorem loop_carried (hw : Weights b e q) (v29 : BitVec 32) (init : Vec Ideal S1x64 .f32 × Vec Ideal S1x1 .i32)
    (T G : Row) (w : ℤ) (k0 : ℕ)
    (hF : ∀ l, init.1 (ix2 0 l) = ((G l : ℝ) : EReal)) (hw2 : init.2 (ix2 0 0) = BitVec.ofInt 32 w) (hc : Carried T G w k0)
    (n : ℕ) (hn : n ≤ 32 - firstTrip i) :
    ∃ (G' : Row) (w' : ℤ),
      (∀ l, (st_k0_t1 (F := Ideal) 𝒱 c bd i arg1 harg1 arg2 harg2 arg3 harg3 arg4 harg4 arg5 harg5 arg6 harg6 arg7 harg7 arg8 harg8 arg9 harg9 arg10 harg10 arg11 harg11 arg12 harg12 v29 X10 X11 X12 init n).1 (ix2 0 l) = ((G' l : ℝ) : EReal))
      ∧ (st_k0_t1 (F := Ideal) 𝒱 c bd i arg1 harg1 arg2 harg2 arg3 harg3 arg4 harg4 arg5 harg5 arg6 harg6 arg7 harg7 arg8 harg8 arg9 harg9 arg10 harg10 arg11 harg11 arg12 harg12 v29 X10 X11 X12 init n).2 (ix2 0 0) = BitVec.ofInt 32 w'
      ∧ Carried (steps (fun r => b (8 * firstTrip i + r)) (fun r => e (8 * firstTrip i + r))
          (fun r => q (8 * firstTrip i + r)) T (8 * n)) G' w' (k0 + n) := by
  induction n with
  | zero => exact ⟨G, w, hF, hw2, hc⟩
  | succ n ih =>
    obtain ⟨G1, w1, h1, h2, h3⟩ := ih (by omega)
    have hk : n < (k0_t1_loop i).trips := by rw [loop_trips]; omega
    rw [st_k0_t1_succ 𝒱 c bd i arg1 harg1 arg2 harg2 arg3 harg3 arg4 harg4 arg5 harg5 arg6 harg6 arg7 harg7 arg8 harg8 arg9 harg9 arg10 harg10 arg11 harg11 arg12 harg12 v29 X10 X11 X12 init ⟨n, hk⟩]
    obtain ⟨G2, w2, g1, g2, g3⟩ := trip_carried 𝒱 c bd i arg1 harg1 arg2 harg2 arg3 harg3 arg4 harg4 arg5 harg5 arg6 harg6 arg7 harg7 arg8 harg8 arg9 harg9 arg10 harg10 arg11 harg11 arg12 harg12 X10 X11 X12 b e q hB hE hQ hw v29 ⟨n, hk⟩ _ _ G1 w1 _ h1 h2 h3
    refine ⟨G2, w2, g1, g2, ?_⟩
    rw [show 8 * (n + 1) = 8 * n + 8 by ring, steps_add]
    simp only [mul_add, add_assoc] at g3 ⊢
    exact g3

end Cert.Hmm

end
-- ==== Proof.Points.lean ====
/- Hand-written. What each grid point leaves: the first point starts from row 0 and takes seven rows singly, every point
then takes its block's rest eight rows at a time, and the last point reads the negated log of the mass off. -/
module

public import proofs.«01_k».proof.Proof.Trips
public import proofs.«01_k».proof.Proof.Gen.KernelIdeal.Frame
public import Idealize.ShloMosaic.Lib.Pipeline.ValueKit.Acc

@[expose] public section

set_option maxRecDepth 16384

noncomputable section

namespace Cert.Hmm

open Idealize.ShloMosaic Idealize.ShloMosaic.TcCoe Cert.KernelIdeal Cert.KernelIdeal.Gen

/-! ### Whole scratch arrays read back -/

theorem origin : (![0, 0] : Fin 2 → Nat) = fun _ => 0 := by funext j; fin_cases j <;> rfl

theorem whole_covers (Y : Vec Ideal S256x64 .f32) (y : S256x64.Idx) :
    ∃ p ∈ [(⟨Rect.unit ![0, 0] S256x64.size inb_S256x64_S256x64_0_0, Y⟩ : View.Piece (Elt Ideal) S256x64 .f32)], y ∈ p.1.set :=
  ⟨_, List.mem_singleton_self _, View.mem_set_unit_zero origin inb_S256x64_S256x64_0_0 y⟩

theorem read_whole (arg : Memref sig .tc .vmem S256x64 .f32) (Y : Vec Ideal S256x64 .f32) :
    arg.view.read (Elt Ideal) (arg.view.writes (Elt Ideal) arg.view.junk
      [⟨Rect.unit ![0, 0] S256x64.size inb_S256x64_S256x64_0_0, Y⟩]) = Y := by
  rw [View.read_writes_eq_canon _ _ _ (whole_covers Y), View.canon_unit_zero origin]

theorem cov_row (arg : Memref sig .tc .vmem S256x64 .f32) (Y : Vec Ideal S256x64 .f32) (a : ℕ → Row)
    (h : ∀ (t : Fin 256) l, Y (ix2 t l) = ((a t l : ℝ) : EReal)) (r : ℕ) (hr : r < 256) (hin) (l : Fin 64) :
    (arg.view.readCov [(⟨Rect.unit ![0, 0] S256x64.size inb_S256x64_S256x64_0_0, Y⟩ : View.Piece (Elt Ideal) S256x64 .f32)]
      (Rect.unit (s := S256x64) ![r, 0] S1x64.size hin).toLoadRect : Vec Ideal S1x64 .f32) (ix2 0 l) = ((a r l : ℝ) : EReal) := by
  rw [View.readCov_eq_canon_ld _ _ _ (whole_covers Y), View.canon_unit_zero origin]
  exact (View.ld_unit_apply_of (S := S256x64) _ ![r, 0] S1x64.size hin (ix2 0 l) (ix2 ⟨r, hr⟩ l) (fun j => by
    fin_cases j
    · exact (Nat.add_zero r).symm
    · exact (Nat.zero_add _).symm)).trans (h ⟨r, hr⟩ l)

/-! ### One row taken singly -/

/-- A step as the first point takes it. -/
def single (P B E Q : Vec Ideal S1x64 .f32) : FVec Ideal S1x64 .f32 :=
  addf (mulf (broadcastTo S1x64 (shapeCast S1x1 (multiReduction .add [1] S1 (mulf P B) 0x00000000#32 reduces_S1x64_S1
    (.inl rfl) rfl) shapeCasts_S1_S1x1) broadcasts_S1x1_S1x64) E) (mulf P Q)

theorem single_apply (P B E Q : Vec Ideal S1x64 .f32) (f b e q : Row) (hP : ∀ l, P (ix2 0 l) = ((f l : ℝ) : EReal))
    (hB : ∀ l, B (ix2 0 l) = ((b l : ℝ) : EReal)) (hE : ∀ l, E (ix2 0 l) = ((e l : ℝ) : EReal))
    (hQ : ∀ l, Q (ix2 0 l) = ((q l : ℝ) : EReal)) (l : Fin 64) :
    single P B E Q (ix2 0 l) = ((stepRow f b e q l : ℝ) : EReal) := by
  pointwise [single]
  simp only [hP, hB, hE, hQ, ← EReal.coe_mul, coe_sum, ← EReal.coe_add]
  rfl

/-- The greatest of 64 reals, folded from `-∞`. -/
theorem fold_max (f : Row) : ∃ k, Finset.fold max (⊥ : EReal) (fun l => ((f l : ℝ) : EReal)) Finset.univ = ((f k : ℝ) : EReal)
    ∧ ∀ l, f l ≤ f k := by
  obtain ⟨k, -, hk⟩ := Finset.exists_max_image Finset.univ f ⟨0, Finset.mem_univ _⟩
  refine ⟨k, le_antisymm ?_ ?_, fun l => hk l (Finset.mem_univ l)⟩
  · exact Finset.fold_max_le _ |>.mpr ⟨bot_le, fun l hl => EReal.coe_le_coe_iff.mpr (hk l hl)⟩
  · exact Finset.le_fold_max _ |>.mpr (Or.inr ⟨k, Finset.mem_univ _, le_rfl⟩)

section First

variable (f : Row) (v108 v115 : FVec Ideal S1x64 .f32) (v116 : Vec Ideal S1x64 .f32)
variable (h : ∀ l, k0_pay62 (F := Ideal) v108 v115 v116 (ix2 0 l) = ((f l : ℝ) : EReal))

include h

theorem first_word : ∃ k, k0_pay63 (F := Ideal) v108 v115 v116 (ix2 0 0) = expWord ((f k : ℝ) : EReal) ∧ ∀ l, f l ≤ f k := by
  obtain ⟨k, hk, hle⟩ := fold_max f
  refine ⟨k, ?_, hle⟩
  pointwise [k0_pay63]
  simp only [h, neg_inf, hk]
  rfl

theorem first_state (hpos : ∀ l, 0 ≤ f l) (hlt : ∀ l, f l < 2 ^ 127) :
    ∃ (G : Row) (w : ℤ), (∀ l, k0_pay64 (F := Ideal) v108 v115 v116 (ix2 0 l) = ((G l : ℝ) : EReal))
      ∧ k0_pay65 (F := Ideal) v108 v115 v116 (ix2 0 0) = BitVec.ofInt 32 w ∧ Carried f G w 1 := by
  obtain ⟨k, hk, hle⟩ := first_word f v108 v115 v116 h
  obtain ⟨n, hn, hword, hscale, hs, -⟩ := exponent_spec (f k) (hpos k) (hlt k)
  refine ⟨fun l => f l * (2 : ℝ) ^ ((127 : ℤ) - n), (n : ℤ) - 127, fun l => ?_, ?_, ⟨fun l => ?_, fun l => ?_, fun l => ?_, ?_⟩⟩
  · pointwise [k0_pay64]
    rw [h, hk, EReal.coe_mul, ← hscale]
    rfl
  · pointwise [k0_pay65]
    rw [hk, hword]
  · exact mul_nonneg (hpos l) (by positivity)
  · have h1 : f l * (2 : ℝ) ^ ((127 : ℤ) - n) ≤ (2 : ℝ) ^ ((n : ℤ) - 126) * (2 : ℝ) ^ ((127 : ℤ) - n) :=
      mul_le_mul_of_nonneg_right ((hle l).trans hs.le) (by positivity)
    rw [← zpow_add₀ (by norm_num)] at h1
    refine h1.trans ?_
    norm_num
    unfold top
    have := Real.exp_pos 50
    linarith
  · rw [mul_assoc, ← zpow_add₀ (by norm_num)]
    norm_num
  · exact abs_le.mpr ⟨by push_cast; omega, by push_cast; omega⟩

end First

/-! ### The points -/

section Points

variable (c : Dev nD) (i : grid0.Coords)
  (arg1 : Memref sig .tc .vmem S256x64x32 .f32) (harg1 : arg1.IsWhole) (arg2 : Memref sig .tc .vmem S256x1x32 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x1 .f32) (harg7 : arg7.IsWhole) (arg8 : Memref sig .tc .vmem S1x64 .f32) (harg8 : arg8.IsWhole) (arg9 : Memref sig .tc .vmem S1x1 .i32) (harg9 : arg9.IsWhole) (arg10 : Memref sig .tc .vmem S256x64 .f32) (harg10 : arg10.IsWhole) (arg11 : Memref sig .tc .vmem S256x64 .f32) (harg11 : arg11.IsWhole) (arg12 : Memref sig .tc .vmem S256x64 .f32) (harg12 : arg12.IsWhole)
    (x0 : Vec Ideal S256x64x32 .f32) (x1 : Vec Ideal S256x1x32 .f32) (x2 : Vec Ideal S256x64 .f32) (x3 : Vec Ideal S256x64 .f32) (x4 : Vec Ideal S256x64 .f32) (x5 : Vec Ideal S1x64 .f32) (xs0 : Vec Ideal S1x64 .f32) (xs1 : Vec Ideal S1x1 .i32)
variable (b e q : ℕ → Row)
variable (hB : ∀ (t : Fin 256) l, k0_pay59 (F := Ideal) x2 (ix2 t l) = ((b t l : ℝ) : EReal))
variable (hE : ∀ (t : Fin 256) l, k0_pay60 (F := Ideal) x0 x1 x4 (ix2 t l) = ((e t l : ℝ) : EReal))
variable (hQ : ∀ (t : Fin 256) l, k0_pay61 (F := Ideal) x0 x1 x3 (ix2 t l) = ((q t l : ℝ) : EReal))

theorem start_of_not (hc0 : ¬cond0_0 i) : firstTrip i = 0 := by
  have : ∀ n : Fin 256, ¬(Scalar.cmpi .ne (Scalar.extui (Scalar.cmpi .eq (BitVec.ofNat 32 n.val) 0#32)) 0#32) = 1#1
      → (if n.val = 0 then 1 else 0) = 0 := by decide +kernel
  exact this (i 0) hc0

theorem start_of (hc0 : cond0_0 i) : firstTrip i = 1 := by
  have : ∀ n : Fin 256, (Scalar.cmpi .ne (Scalar.extui (Scalar.cmpi .eq (BitVec.ofNat 32 n.val) 0#32)) 0#32) = 1#1
      → (if n.val = 0 then 1 else 0) = 1 := by decide +kernel
  exact this (i 0) hc0

include hB hE hQ in
/-- The loop over a block, from any carried state. -/
theorem block_carried (hw : Weights b e q) (v29 : BitVec 32) (init : Vec Ideal S1x64 .f32 × Vec Ideal S1x1 .i32)
    (T G : Row) (w : ℤ) (k0 : ℕ)
    (hF : ∀ l, init.1 (ix2 0 l) = ((G l : ℝ) : EReal)) (hw2 : init.2 (ix2 0 0) = BitVec.ofInt 32 w) (hc : Carried T G w k0) :
    ∃ (G' : Row) (w' : ℤ),
      (∀ l, (st_k0_t1 (F := Ideal) Variants.none c none i arg1 harg1 arg2 harg2 arg3 harg3 arg4 harg4 arg5 harg5 arg6 harg6 arg7 harg7 arg8 harg8 arg9 harg9 arg10 harg10 arg11 harg11 arg12 harg12 v29
          (arg10.view.writes (Elt Ideal) arg10.view.junk [⟨Rect.unit ![0, 0] S256x64.size inb_S256x64_S256x64_0_0, k0_pay59 (F := Ideal) x2⟩])
          (arg11.view.writes (Elt Ideal) arg11.view.junk [⟨Rect.unit ![0, 0] S256x64.size inb_S256x64_S256x64_0_0, k0_pay60 (F := Ideal) x0 x1 x4⟩])
          (arg12.view.writes (Elt Ideal) arg12.view.junk [⟨Rect.unit ![0, 0] S256x64.size inb_S256x64_S256x64_0_0, k0_pay61 (F := Ideal) x0 x1 x3⟩])
          init (32 - firstTrip i)).1 (ix2 0 l) = ((G' l : ℝ) : EReal))
      ∧ (st_k0_t1 (F := Ideal) Variants.none c none i arg1 harg1 arg2 harg2 arg3 harg3 arg4 harg4 arg5 harg5 arg6 harg6 arg7 harg7 arg8 harg8 arg9 harg9 arg10 harg10 arg11 harg11 arg12 harg12 v29
          (arg10.view.writes (Elt Ideal) arg10.view.junk [⟨Rect.unit ![0, 0] S256x64.size inb_S256x64_S256x64_0_0, k0_pay59 (F := Ideal) x2⟩])
          (arg11.view.writes (Elt Ideal) arg11.view.junk [⟨Rect.unit ![0, 0] S256x64.size inb_S256x64_S256x64_0_0, k0_pay60 (F := Ideal) x0 x1 x4⟩])
          (arg12.view.writes (Elt Ideal) arg12.view.junk [⟨Rect.unit ![0, 0] S256x64.size inb_S256x64_S256x64_0_0, k0_pay61 (F := Ideal) x0 x1 x3⟩])
          init (32 - firstTrip i)).2 (ix2 0 0) = BitVec.ofInt 32 w'
      ∧ Carried (steps (fun r => b (8 * firstTrip i + r)) (fun r => e (8 * firstTrip i + r))
          (fun r => q (8 * firstTrip i + r)) T (8 * (32 - firstTrip i))) G' w' (k0 + (32 - firstTrip i)) :=
  loop_carried Variants.none c none i arg1 harg1 arg2 harg2 arg3 harg3 arg4 harg4 arg5 harg5 arg6 harg6 arg7 harg7 arg8 harg8 arg9 harg9 arg10 harg10 arg11 harg11 arg12 harg12 _ _ _ b e q (fun t l => by rw [read_whole, hB])
    (fun t l => by rw [read_whole, hE]) (fun t l => by rw [read_whole, hQ]) hw v29 init T G w k0 hF hw2 hc _ le_rfl

include hB hE hQ in
/-- A middle point takes its 256 rows. -/
theorem middle_carried (hw : Weights b e q) (hc0 : ¬cond0_0 i) (hc1 : ¬cond0_1 i) (T G : Row) (w : ℤ) (k0 : ℕ)
    (hF : ∀ l, xs0 (ix2 0 l) = ((G l : ℝ) : EReal)) (hw2 : xs1 (ix2 0 0) = BitVec.ofInt 32 w) (hc : Carried T G w k0) :
    ∃ (G' : Row) (w' : ℤ),
      (∀ l, sout0_B_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 (ix2 0 l) = ((G' l : ℝ) : EReal))
      ∧ sout0_B_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 (ix2 0 0) = BitVec.ofInt 32 w'
      ∧ Carried (steps b e q T 256) G' w' (k0 + 32) := by
  have hs := start_of_not i hc0
  obtain ⟨G', w', h1, h2, h3⟩ := block_carried c i arg1 harg1 arg2 harg2 arg3 harg3 arg4 harg4 arg5 harg5 arg6 harg6 arg7 harg7 arg8 harg8 arg9 harg9 arg10 harg10 arg11 harg11 arg12 harg12 x0 x1 x2 x3 x4 b e q hB hE hQ hw
    (Scalar.select (Scalar.cmpi CmpIPredicate.eq (BitVec.ofNat 32 (i 0).val) 0#32) 1#32 0#32) (xs0, xs1) T G w k0 hF hw2 hc
  have ht := loop_trips i
  refine ⟨G', w', fun l => ?_, ?_, ?_⟩
  · frame_out
    rw [Scf.rem_trips, st_k0_t2_zero, show Scf.trips _ _ _ = 32 - firstTrip i from ht]
    pointwise [k0_pay9]
    exact h1 l
  · frame_out
    rw [Scf.rem_trips, st_k0_t2_zero, show Scf.trips _ _ _ = 32 - firstTrip i from ht]
    pointwise [k0_pay10]
    exact h2
  · simpa only [hs, Nat.mul_zero, Nat.zero_add, Nat.sub_zero, Nat.reduceMul] using h3

include hB hE hQ in
/-- The last point takes its 256 rows and reads the result off. -/
theorem last_carried (hw : Weights b e q) (hc0 : ¬cond0_0 i) (hc1 : cond0_1 i) (T G : Row) (w : ℤ) (k0 : ℕ)
    (hF : ∀ l, xs0 (ix2 0 l) = ((G l : ℝ) : EReal)) (hw2 : xs1 (ix2 0 0) = BitVec.ofInt 32 w) (hc : Carried T G w k0) :
    ∃ (G' : Row) (w' : ℤ) (A : Vec Ideal S1x64 .f32) (E : Vec Ideal S1x1 .i32),
      (∀ l, A (ix2 0 l) = ((G' l : ℝ) : EReal)) ∧ E (ix2 0 0) = BitVec.ofInt 32 w'
      ∧ Carried (steps b e q T 256) G' w' (k0 + 32)
      ∧ out0_C_6 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 = k0_pay11 (F := Ideal) A E x5 := by
  have hs := start_of_not i hc0
  obtain ⟨G', w', h1, h2, h3⟩ := block_carried c i arg1 harg1 arg2 harg2 arg3 harg3 arg4 harg4 arg5 harg5 arg6 harg6 arg7 harg7 arg8 harg8 arg9 harg9 arg10 harg10 arg11 harg11 arg12 harg12 x0 x1 x2 x3 x4 b e q hB hE hQ hw
    (Scalar.select (Scalar.cmpi CmpIPredicate.eq (BitVec.ofNat 32 (i 0).val) 0#32) 1#32 0#32) (xs0, xs1) T G w k0 hF hw2 hc
  have ht := loop_trips i
  refine ⟨G', w', _, _, h1, h2, ?_, ?_⟩
  · simpa only [hs, Nat.mul_zero, Nat.zero_add, Nat.sub_zero, Nat.reduceMul] using h3
  · frame_out
    rw [Scf.rem_trips, st_k0_t2_zero, show Scf.trips _ _ _ = 32 - firstTrip i from ht]

/-! ### The first point's single rows -/

theorem origin3 : (![0, 0, 0] : Fin 3 → Nat) = fun _ => 0 := by funext j; fin_cases j <;> rfl

theorem held2 : kernelRun0_A.sl.HS2_1 (F := Ideal) c arg3 harg3 x2
    = [⟨Rect.unit ![0, 0] S256x64.size inb_S256x64_S256x64_0_0, k0_pay59 (F := Ideal) x2⟩] := by
  unfold kernelRun0_A.sl.HS2_1
  rw [View.readAt_eq_ld, harg3.read_unread, View.ld_unit_zero origin]

theorem held3 : kernelRun0_A.sl.HS3_1 (F := Ideal) c arg1 harg1 arg2 harg2 arg5 harg5 x0 x1 x4
    = [⟨Rect.unit ![0, 0] S256x64.size inb_S256x64_S256x64_0_0, k0_pay60 (F := Ideal) x0 x1 x4⟩] := by
  unfold kernelRun0_A.sl.HS3_1
  rw [View.readAt_eq_ld, harg1.read_unread, View.ld_unit_zero origin3, View.readAt_eq_ld, harg2.read_unread,
    View.ld_unit_zero origin3, View.readAt_eq_ld, harg5.read_unread, View.ld_unit_zero origin]

theorem held4 : kernelRun0_A.sl.HS4_1 (F := Ideal) c arg1 harg1 arg2 harg2 arg4 harg4 x0 x1 x3
    = [⟨Rect.unit ![0, 0] S256x64.size inb_S256x64_S256x64_0_0, k0_pay61 (F := Ideal) x0 x1 x3⟩] := by
  unfold kernelRun0_A.sl.HS4_1
  rw [View.readAt_eq_ld, harg1.read_unread, View.ld_unit_zero origin3, View.readAt_eq_ld, harg2.read_unread,
    View.ld_unit_zero origin3, View.readAt_eq_ld, harg4.read_unread, View.ld_unit_zero origin]

include hE in
theorem first_v48 (l : Fin 64) : (kernelRun0_A.sl.v48 (F := Ideal) c arg1 harg1 arg2 harg2 arg5 harg5 arg11 x0 x1 x4) (ix2 0 l) = ((e 0 l : ℝ) : EReal) := by
  unfold kernelRun0_A.sl.v48
  rw [held3]
  exact cov_row arg11 _ e hE 0 (by decide) _ l

include hB in
theorem first_v49 (l : Fin 64) : (kernelRun0_A.sl.v49 (F := Ideal) c arg3 harg3 arg10 x2) (ix2 0 l) = ((b 1 l : ℝ) : EReal) := by
  unfold kernelRun0_A.sl.v49
  rw [held2]
  exact cov_row arg10 _ b hB 1 (by decide) _ l

include hE in
theorem first_v53 (l : Fin 64) : (kernelRun0_A.sl.v53 (F := Ideal) c arg1 harg1 arg2 harg2 arg5 harg5 arg11 x0 x1 x4) (ix2 0 l) = ((e 1 l : ℝ) : EReal) := by
  unfold kernelRun0_A.sl.v53
  rw [held3]
  exact cov_row arg11 _ e hE 1 (by decide) _ l

include hQ in
theorem first_v56 (l : Fin 64) : (kernelRun0_A.sl.v56 (F := Ideal) c arg1 harg1 arg2 harg2 arg4 harg4 arg12 x0 x1 x3) (ix2 0 l) = ((q 1 l : ℝ) : EReal) := by
  unfold kernelRun0_A.sl.v56
  rw [held4]
  exact cov_row arg12 _ q hQ 1 (by decide) _ l

include hB in
theorem first_v59 (l : Fin 64) : (kernelRun0_A.sl.v59 (F := Ideal) c arg3 harg3 arg10 x2) (ix2 0 l) = ((b 2 l : ℝ) : EReal) := by
  unfold kernelRun0_A.sl.v59
  rw [held2]
  exact cov_row arg10 _ b hB 2 (by decide) _ l

include hE in
theorem first_v63 (l : Fin 64) : (kernelRun0_A.sl.v63 (F := Ideal) c arg1 harg1 arg2 harg2 arg5 harg5 arg11 x0 x1 x4) (ix2 0 l) = ((e 2 l : ℝ) : EReal) := by
  unfold kernelRun0_A.sl.v63
  rw [held3]
  exact cov_row arg11 _ e hE 2 (by decide) _ l

include hQ in
theorem first_v66 (l : Fin 64) : (kernelRun0_A.sl.v66 (F := Ideal) c arg1 harg1 arg2 harg2 arg4 harg4 arg12 x0 x1 x3) (ix2 0 l) = ((q 2 l : ℝ) : EReal) := by
  unfold kernelRun0_A.sl.v66
  rw [held4]
  exact cov_row arg12 _ q hQ 2 (by decide) _ l

include hB in
theorem first_v69 (l : Fin 64) : (kernelRun0_A.sl.v69 (F := Ideal) c arg3 harg3 arg10 x2) (ix2 0 l) = ((b 3 l : ℝ) : EReal) := by
  unfold kernelRun0_A.sl.v69
  rw [held2]
  exact cov_row arg10 _ b hB 3 (by decide) _ l

include hE in
theorem first_v73 (l : Fin 64) : (kernelRun0_A.sl.v73 (F := Ideal) c arg1 harg1 arg2 harg2 arg5 harg5 arg11 x0 x1 x4) (ix2 0 l) = ((e 3 l : ℝ) : EReal) := by
  unfold kernelRun0_A.sl.v73
  rw [held3]
  exact cov_row arg11 _ e hE 3 (by decide) _ l

include hQ in
theorem first_v76 (l : Fin 64) : (kernelRun0_A.sl.v76 (F := Ideal) c arg1 harg1 arg2 harg2 arg4 harg4 arg12 x0 x1 x3) (ix2 0 l) = ((q 3 l : ℝ) : EReal) := by
  unfold kernelRun0_A.sl.v76
  rw [held4]
  exact cov_row arg12 _ q hQ 3 (by decide) _ l

include hB in
theorem first_v79 (l : Fin 64) : (kernelRun0_A.sl.v79 (F := Ideal) c arg3 harg3 arg10 x2) (ix2 0 l) = ((b 4 l : ℝ) : EReal) := by
  unfold kernelRun0_A.sl.v79
  rw [held2]
  exact cov_row arg10 _ b hB 4 (by decide) _ l

include hE in
theorem first_v83 (l : Fin 64) : (kernelRun0_A.sl.v83 (F := Ideal) c arg1 harg1 arg2 harg2 arg5 harg5 arg11 x0 x1 x4) (ix2 0 l) = ((e 4 l : ℝ) : EReal) := by
  unfold kernelRun0_A.sl.v83
  rw [held3]
  exact cov_row arg11 _ e hE 4 (by decide) _ l

include hQ in
theorem first_v86 (l : Fin 64) : (kernelRun0_A.sl.v86 (F := Ideal) c arg1 harg1 arg2 harg2 arg4 harg4 arg12 x0 x1 x3) (ix2 0 l) = ((q 4 l : ℝ) : EReal) := by
  unfold kernelRun0_A.sl.v86
  rw [held4]
  exact cov_row arg12 _ q hQ 4 (by decide) _ l

include hB in
theorem first_v89 (l : Fin 64) : (kernelRun0_A.sl.v89 (F := Ideal) c arg3 harg3 arg10 x2) (ix2 0 l) = ((b 5 l : ℝ) : EReal) := by
  unfold kernelRun0_A.sl.v89
  rw [held2]
  exact cov_row arg10 _ b hB 5 (by decide) _ l

include hE in
theorem first_v93 (l : Fin 64) : (kernelRun0_A.sl.v93 (F := Ideal) c arg1 harg1 arg2 harg2 arg5 harg5 arg11 x0 x1 x4) (ix2 0 l) = ((e 5 l : ℝ) : EReal) := by
  unfold kernelRun0_A.sl.v93
  rw [held3]
  exact cov_row arg11 _ e hE 5 (by decide) _ l

include hQ in
theorem first_v96 (l : Fin 64) : (kernelRun0_A.sl.v96 (F := Ideal) c arg1 harg1 arg2 harg2 arg4 harg4 arg12 x0 x1 x3) (ix2 0 l) = ((q 5 l : ℝ) : EReal) := by
  unfold kernelRun0_A.sl.v96
  rw [held4]
  exact cov_row arg12 _ q hQ 5 (by decide) _ l

include hB in
theorem first_v99 (l : Fin 64) : (kernelRun0_A.sl.v99 (F := Ideal) c arg3 harg3 arg10 x2) (ix2 0 l) = ((b 6 l : ℝ) : EReal) := by
  unfold kernelRun0_A.sl.v99
  rw [held2]
  exact cov_row arg10 _ b hB 6 (by decide) _ l

include hE in
theorem first_v103 (l : Fin 64) : (kernelRun0_A.sl.v103 (F := Ideal) c arg1 harg1 arg2 harg2 arg5 harg5 arg11 x0 x1 x4) (ix2 0 l) = ((e 6 l : ℝ) : EReal) := by
  unfold kernelRun0_A.sl.v103
  rw [held3]
  exact cov_row arg11 _ e hE 6 (by decide) _ l

include hQ in
theorem first_v106 (l : Fin 64) : (kernelRun0_A.sl.v106 (F := Ideal) c arg1 harg1 arg2 harg2 arg4 harg4 arg12 x0 x1 x3) (ix2 0 l) = ((q 6 l : ℝ) : EReal) := by
  unfold kernelRun0_A.sl.v106
  rw [held4]
  exact cov_row arg12 _ q hQ 6 (by decide) _ l

include hB in
theorem first_v109 (l : Fin 64) : (kernelRun0_A.sl.v109 (F := Ideal) c arg3 harg3 arg10 x2) (ix2 0 l) = ((b 7 l : ℝ) : EReal) := by
  unfold kernelRun0_A.sl.v109
  rw [held2]
  exact cov_row arg10 _ b hB 7 (by decide) _ l

include hE in
theorem first_v113 (l : Fin 64) : (kernelRun0_A.sl.v113 (F := Ideal) c arg1 harg1 arg2 harg2 arg5 harg5 arg11 x0 x1 x4) (ix2 0 l) = ((e 7 l : ℝ) : EReal) := by
  unfold kernelRun0_A.sl.v113
  rw [held3]
  exact cov_row arg11 _ e hE 7 (by decide) _ l

include hQ in
theorem first_v116 (l : Fin 64) : (kernelRun0_A.sl.v116 (F := Ideal) c arg1 harg1 arg2 harg2 arg4 harg4 arg12 x0 x1 x3) (ix2 0 l) = ((q 7 l : ℝ) : EReal) := by
  unfold kernelRun0_A.sl.v116
  rw [held4]
  exact cov_row arg12 _ q hQ 7 (by decide) _ l

include hB hE hQ in
theorem first_v58 (l : Fin 64) : (kernelRun0_A.sl.v58 (F := Ideal) c arg1 harg1 arg2 harg2 arg3 harg3 arg4 harg4 arg5 harg5 arg10 arg11 arg12 x0 x1 x2 x3 x4) (ix2 0 l) = ((steps (fun r => b (1 + r)) (fun r => e (1 + r)) (fun r => q (1 + r)) (e 0) 1 l : ℝ) : EReal) := by
  unfold kernelRun0_A.sl.v58 kernelRun0_A.sl.v55 kernelRun0_A.sl.v54 kernelRun0_A.sl.v52 kernelRun0_A.sl.v51 kernelRun0_A.sl.v50 kernelRun0_A.sl.v57
  exact single_apply _ _ _ _ _ (b 1) (e 1) (q 1) (fun l => first_v48 (l := l) (hE := hE) ..) (fun l => first_v49 (l := l) (hB := hB) ..) (fun l => first_v53 (l := l) (hE := hE) ..) (fun l => first_v56 (l := l) (hQ := hQ) ..) l

include hB hE hQ in
theorem first_v68 (l : Fin 64) : (kernelRun0_A.sl.v68 (F := Ideal) c arg1 harg1 arg2 harg2 arg3 harg3 arg4 harg4 arg5 harg5 arg10 arg11 arg12 x0 x1 x2 x3 x4) (ix2 0 l) = ((steps (fun r => b (1 + r)) (fun r => e (1 + r)) (fun r => q (1 + r)) (e 0) 2 l : ℝ) : EReal) := by
  unfold kernelRun0_A.sl.v68 kernelRun0_A.sl.v65 kernelRun0_A.sl.v64 kernelRun0_A.sl.v62 kernelRun0_A.sl.v61 kernelRun0_A.sl.v60 kernelRun0_A.sl.v67
  exact single_apply _ _ _ _ _ (b 2) (e 2) (q 2) (fun l => first_v58 (l := l) (hB := hB) (hE := hE) (hQ := hQ) ..) (fun l => first_v59 (l := l) (hB := hB) ..) (fun l => first_v63 (l := l) (hE := hE) ..) (fun l => first_v66 (l := l) (hQ := hQ) ..) l

include hB hE hQ in
theorem first_v78 (l : Fin 64) : (kernelRun0_A.sl.v78 (F := Ideal) c arg1 harg1 arg2 harg2 arg3 harg3 arg4 harg4 arg5 harg5 arg10 arg11 arg12 x0 x1 x2 x3 x4) (ix2 0 l) = ((steps (fun r => b (1 + r)) (fun r => e (1 + r)) (fun r => q (1 + r)) (e 0) 3 l : ℝ) : EReal) := by
  unfold kernelRun0_A.sl.v78 kernelRun0_A.sl.v75 kernelRun0_A.sl.v74 kernelRun0_A.sl.v72 kernelRun0_A.sl.v71 kernelRun0_A.sl.v70 kernelRun0_A.sl.v77
  exact single_apply _ _ _ _ _ (b 3) (e 3) (q 3) (fun l => first_v68 (l := l) (hB := hB) (hE := hE) (hQ := hQ) ..) (fun l => first_v69 (l := l) (hB := hB) ..) (fun l => first_v73 (l := l) (hE := hE) ..) (fun l => first_v76 (l := l) (hQ := hQ) ..) l

include hB hE hQ in
theorem first_v88 (l : Fin 64) : (kernelRun0_A.sl.v88 (F := Ideal) c arg1 harg1 arg2 harg2 arg3 harg3 arg4 harg4 arg5 harg5 arg10 arg11 arg12 x0 x1 x2 x3 x4) (ix2 0 l) = ((steps (fun r => b (1 + r)) (fun r => e (1 + r)) (fun r => q (1 + r)) (e 0) 4 l : ℝ) : EReal) := by
  unfold kernelRun0_A.sl.v88 kernelRun0_A.sl.v85 kernelRun0_A.sl.v84 kernelRun0_A.sl.v82 kernelRun0_A.sl.v81 kernelRun0_A.sl.v80 kernelRun0_A.sl.v87
  exact single_apply _ _ _ _ _ (b 4) (e 4) (q 4) (fun l => first_v78 (l := l) (hB := hB) (hE := hE) (hQ := hQ) ..) (fun l => first_v79 (l := l) (hB := hB) ..) (fun l => first_v83 (l := l) (hE := hE) ..) (fun l => first_v86 (l := l) (hQ := hQ) ..) l

include hB hE hQ in
theorem first_v98 (l : Fin 64) : (kernelRun0_A.sl.v98 (F := Ideal) c arg1 harg1 arg2 harg2 arg3 harg3 arg4 harg4 arg5 harg5 arg10 arg11 arg12 x0 x1 x2 x3 x4) (ix2 0 l) = ((steps (fun r => b (1 + r)) (fun r => e (1 + r)) (fun r => q (1 + r)) (e 0) 5 l : ℝ) : EReal) := by
  unfold kernelRun0_A.sl.v98 kernelRun0_A.sl.v95 kernelRun0_A.sl.v94 kernelRun0_A.sl.v92 kernelRun0_A.sl.v91 kernelRun0_A.sl.v90 kernelRun0_A.sl.v97
  exact single_apply _ _ _ _ _ (b 5) (e 5) (q 5) (fun l => first_v88 (l := l) (hB := hB) (hE := hE) (hQ := hQ) ..) (fun l => first_v89 (l := l) (hB := hB) ..) (fun l => first_v93 (l := l) (hE := hE) ..) (fun l => first_v96 (l := l) (hQ := hQ) ..) l

include hB hE hQ in
theorem first_v108 (l : Fin 64) : (kernelRun0_A.sl.v108 (F := Ideal) c arg1 harg1 arg2 harg2 arg3 harg3 arg4 harg4 arg5 harg5 arg10 arg11 arg12 x0 x1 x2 x3 x4) (ix2 0 l) = ((steps (fun r => b (1 + r)) (fun r => e (1 + r)) (fun r => q (1 + r)) (e 0) 6 l : ℝ) : EReal) := by
  unfold kernelRun0_A.sl.v108 kernelRun0_A.sl.v105 kernelRun0_A.sl.v104 kernelRun0_A.sl.v102 kernelRun0_A.sl.v101 kernelRun0_A.sl.v100 kernelRun0_A.sl.v107
  exact single_apply _ _ _ _ _ (b 6) (e 6) (q 6) (fun l => first_v98 (l := l) (hB := hB) (hE := hE) (hQ := hQ) ..) (fun l => first_v99 (l := l) (hB := hB) ..) (fun l => first_v103 (l := l) (hE := hE) ..) (fun l => first_v106 (l := l) (hQ := hQ) ..) l

include hB hE hQ in
theorem first_row (l : Fin 64) : k0_pay62 (F := Ideal) (kernelRun0_A.sl.v108 (F := Ideal) c arg1 harg1 arg2 harg2 arg3 harg3 arg4 harg4 arg5 harg5 arg10 arg11 arg12 x0 x1 x2 x3 x4) (kernelRun0_A.sl.v115 (F := Ideal) c arg1 harg1 arg2 harg2 arg3 harg3 arg4 harg4 arg5 harg5 arg10 arg11 arg12 x0 x1 x2 x3 x4) (kernelRun0_A.sl.v116 (F := Ideal) c arg1 harg1 arg2 harg2 arg4 harg4 arg12 x0 x1 x3) (ix2 0 l) = ((steps (fun r => b (1 + r)) (fun r => e (1 + r)) (fun r => q (1 + r)) (e 0) 7 l : ℝ) : EReal) := by
  unfold k0_pay62 kernelRun0_A.sl.v115 kernelRun0_A.sl.v114 kernelRun0_A.sl.v112 kernelRun0_A.sl.v111 kernelRun0_A.sl.v110
  exact single_apply _ _ _ _ _ (b 7) (e 7) (q 7) (fun l => first_v108 (l := l) (hB := hB) (hE := hE) (hQ := hQ) ..) (fun l => first_v109 (l := l) (hB := hB) ..) (fun l => first_v113 (l := l) (hE := hE) ..) (fun l => first_v116 (l := l) (hQ := hQ) ..) l

theorem first_init0 : (kernelRun0_A.sl.v30 (F := Ideal) c arg1 harg1 arg2 harg2 arg3 harg3 arg4 harg4 arg5 harg5 arg8 arg10 arg11 arg12 x0 x1 x2 x3 x4) = k0_pay64 (F := Ideal) (kernelRun0_A.sl.v108 (F := Ideal) c arg1 harg1 arg2 harg2 arg3 harg3 arg4 harg4 arg5 harg5 arg10 arg11 arg12 x0 x1 x2 x3 x4) (kernelRun0_A.sl.v115 (F := Ideal) c arg1 harg1 arg2 harg2 arg3 harg3 arg4 harg4 arg5 harg5 arg10 arg11 arg12 x0 x1 x2 x3 x4) (kernelRun0_A.sl.v116 (F := Ideal) c arg1 harg1 arg2 harg2 arg4 harg4 arg12 x0 x1 x3) := by
  unfold kernelRun0_A.sl.v30 kernelRun0_A.sl.HS0_1
  exact View.readCov_unit_lit _ _ _ (fun j => congrFun origin j)

theorem first_init1 : (kernelRun0_A.sl.v31 (F := Ideal) c arg1 harg1 arg2 harg2 arg3 harg3 arg4 harg4 arg5 harg5 arg9 arg10 arg11 arg12 x0 x1 x2 x3 x4) = k0_pay65 (F := Ideal) (kernelRun0_A.sl.v108 (F := Ideal) c arg1 harg1 arg2 harg2 arg3 harg3 arg4 harg4 arg5 harg5 arg10 arg11 arg12 x0 x1 x2 x3 x4) (kernelRun0_A.sl.v115 (F := Ideal) c arg1 harg1 arg2 harg2 arg3 harg3 arg4 harg4 arg5 harg5 arg10 arg11 arg12 x0 x1 x2 x3 x4) (kernelRun0_A.sl.v116 (F := Ideal) c arg1 harg1 arg2 harg2 arg4 harg4 arg12 x0 x1 x3) := by
  unfold kernelRun0_A.sl.v31 kernelRun0_A.sl.HS1_1
  exact View.readCov_unit_lit _ _ _ (fun j => congrFun origin j)

include hB hE hQ in
/-- The first point: row 0, seven rows singly, then its block's rest. -/
theorem first_carried (hw : Weights b e q) (hc0 : cond0_0 i) (hc1 : ¬cond0_1 i) :
    ∃ (G' : Row) (w' : ℤ),
      (∀ l, sout0_A_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 (ix2 0 l) = ((G' l : ℝ) : EReal))
      ∧ sout0_A_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 (ix2 0 0) = BitVec.ofInt 32 w'
      ∧ Carried (steps (fun r => b (1 + r)) (fun r => e (1 + r)) (fun r => q (1 + r)) (e 0) 255) G' w' 32 := by
  have hs := start_of i hc0
  have hsh := hw.shift 1
  obtain ⟨G, w, g1, g2, g3⟩ := first_state (steps (fun r => b (1 + r)) (fun r => e (1 + r)) (fun r => q (1 + r)) (e 0) 7) (kernelRun0_A.sl.v108 (F := Ideal) c arg1 harg1 arg2 harg2 arg3 harg3 arg4 harg4 arg5 harg5 arg10 arg11 arg12 x0 x1 x2 x3 x4) (kernelRun0_A.sl.v115 (F := Ideal) c arg1 harg1 arg2 harg2 arg3 harg3 arg4 harg4 arg5 harg5 arg10 arg11 arg12 x0 x1 x2 x3 x4) (kernelRun0_A.sl.v116 (F := Ideal) c arg1 harg1 arg2 harg2 arg4 harg4 arg12 x0 x1 x3)
    (fun l => first_row (hB := hB) (hE := hE) (hQ := hQ) ..) (hsh.steps_nonneg (hw.e0 0) 7)
    (fun l => lt_of_le_of_lt (hsh.steps_le (hw.e0 0) 7 (M := 1) (hw.e1 0) l) (by norm_num))
  obtain ⟨G', w', h1, h2, h3⟩ := block_carried c i arg1 harg1 arg2 harg2 arg3 harg3 arg4 harg4 arg5 harg5 arg6 harg6 arg7 harg7 arg8 harg8 arg9 harg9 arg10 harg10 arg11 harg11 arg12 harg12 x0 x1 x2 x3 x4 b e q hB hE hQ hw
    (Scalar.select (Scalar.cmpi CmpIPredicate.eq (BitVec.ofNat 32 (i 0).val) 0#32) 1#32 0#32)
    ((kernelRun0_A.sl.v30 (F := Ideal) c arg1 harg1 arg2 harg2 arg3 harg3 arg4 harg4 arg5 harg5 arg8 arg10 arg11 arg12 x0 x1 x2 x3 x4), (kernelRun0_A.sl.v31 (F := Ideal) c arg1 harg1 arg2 harg2 arg3 harg3 arg4 harg4 arg5 harg5 arg9 arg10 arg11 arg12 x0 x1 x2 x3 x4)) _ G w 1
    (fun l => by rw [first_init0]; exact g1 l) (by rw [first_init1]; exact g2) g3
  have ht := loop_trips i
  refine ⟨G', w', fun l => ?_, ?_, ?_⟩
  · unfold sout0_A_0
    rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5)]
    unfold kernelRun0_A
    dsimp only
    rw [View.canon_cons_unit_zero origin]
    pointwise [k0_pay9]
    rw [held2, held3, held4]
    unfold kernelRun0_A.sl.v29 kernelRun0_A.sl.v25
    rw [Scf.rem_trips, st_k0_t2_zero, show Scf.trips _ _ _ = 32 - firstTrip i from ht]
    exact h1 l
  · unfold sout0_A_1
    rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5)]
    unfold kernelRun0_A
    dsimp only
    rw [View.canon_cons_unit_zero origin]
    pointwise [k0_pay10]
    rw [held2, held3, held4]
    unfold kernelRun0_A.sl.v29 kernelRun0_A.sl.v25
    rw [Scf.rem_trips, st_k0_t2_zero, show Scf.trips _ _ _ = 32 - firstTrip i from ht]
    exact h2
  · rw [hs, show 8 * (32 - 1) = 248 from rfl, show (1 + (32 - 1)) = 32 from rfl] at h3
    rw [show (255 : ℕ) = 7 + 248 from rfl, steps_add]
    simp only [← Nat.add_assoc, Nat.reduceAdd, Nat.mul_one] at h3 ⊢
    exact h3

end Points

end Cert.Hmm

end
-- ==== Proof.Model.lean ====
/- The inputs row by row, and the real numbers the two programs weigh the options with. -/
module

public import proofs.«01_k».proof.Proof.Bounds
public import Idealize.ShloMosaic.Lib.Pointwise

@[expose] public section

noncomputable section

namespace Cert.Hmm

open Idealize.ShloMosaic

/-- Row `t` of an array that has one more row than there are steps; past the end, its last row. -/
def row (t : ℕ) : Fin 65537 := ⟨min t 65536, by omega⟩

/-- Step `t`; past the end, the last one. -/
def tick (t : ℕ) : Fin 65536 := ⟨min t 65535, by omega⟩

theorem row_of {t : ℕ} (h : t < 65537) : row t = ⟨t, h⟩ := Fin.ext (by simp only [row]; omega)

theorem tick_of {t : ℕ} (h : t < 65536) : tick t = ⟨t, h⟩ := Fin.ext (by simp only [tick]; omega)

/-- The action taken at step `t`. -/
def choice (D : (⟨1, ![65536]⟩ : Shape).Idx → BitVec 32) (t : ℕ) : Fin 32 := ⟨(D (ix1 (tick t))).toNat % 32, by omega⟩

/-- The log probability that option `l` gives the action taken at step `t`. -/
def act (A : (⟨3, ![65537, 64, 32]⟩ : Shape).Idx → EReal) (D : (⟨1, ![65536]⟩ : Shape).Idx → BitVec 32) (t : ℕ) (l : Fin 64) : EReal :=
  A (ix3 (row t) l (choice D t))

/-- The log probability that option `l` ends at step `t`. -/
def halt (B : (⟨3, ![65537, 64, 2]⟩ : Shape).Idx → EReal) (t : ℕ) (l : Fin 64) : EReal := B (ix3 (row t) l (0 : Fin 2))

/-- The log probability that option `l` goes on at step `t`. -/
def stay (B : (⟨3, ![65537, 64, 2]⟩ : Shape).Idx → EReal) (t : ℕ) (l : Fin 64) : EReal := B (ix3 (row t) l (1 : Fin 2))

/-- The log probability that a new option chosen at step `t` is `l`. -/
def begin (C : (⟨2, ![65537, 64]⟩ : Shape).Idx → EReal) (t : ℕ) (l : Fin 64) : EReal := C (ix2 (row t) l)

/-- What the inputs are taken to satisfy: log probabilities are at most 0, the log probability that an option ends is
    at least -50, and the actions are among the 32 there are. -/
structure Allowed (A : (⟨3, ![65537, 64, 32]⟩ : Shape).Idx → EReal) (B : (⟨3, ![65537, 64, 2]⟩ : Shape).Idx → EReal)
    (C : (⟨2, ![65537, 64]⟩ : Shape).Idx → EReal) (D : (⟨1, ![65536]⟩ : Shape).Idx → BitVec 32) : Prop where
  acts : ∀ i, A i ≤ 0
  stops : ∀ i, B i ≤ 0
  ends : ∀ (t : Fin 65537) (l : Fin 64), ((-50 : ℝ) : EReal) ≤ B (ix3 t l (0 : Fin 2))
  starts : ∀ i, C i ≤ 0
  taken : ∀ t : Fin 65536, (D (ix1 t)).toNat < 32

/-- The probability with log `x`, as a real number. -/
def weight (x : EReal) : ℝ := (Ideal.exp x).toReal

theorem weight_bot : weight ⊥ = 0 := EReal.toReal_zero

theorem weight_real (r : ℝ) : weight (r : EReal) = Real.exp r := by
  simp only [weight]; exact EReal.toReal_coe _

/-- A number at most 0 is a real number or minus infinity. -/
theorem bot_or_real {x : EReal} (h : x ≤ 0) : x = ⊥ ∨ ∃ r : ℝ, r ≤ 0 ∧ x = (r : EReal) := by
  induction x using EReal.rec with
  | bot => exact Or.inl rfl
  | coe r => exact Or.inr ⟨r, by exact_mod_cast h, rfl⟩
  | top => exact absurd h (by simp)

theorem weight_coe {x : EReal} (h : x ≤ 0) : ((weight x : ℝ) : EReal) = Ideal.exp x := by
  rcases bot_or_real h with rfl | ⟨r, -, rfl⟩
  · rw [weight_bot]; rfl
  · rw [weight_real]; rfl

theorem weight_nonneg {x : EReal} (h : x ≤ 0) : 0 ≤ weight x := by
  rcases bot_or_real h with rfl | ⟨r, -, rfl⟩
  · rw [weight_bot]
  · rw [weight_real]; exact (Real.exp_pos r).le

theorem weight_le_one {x : EReal} (h : x ≤ 0) : weight x ≤ 1 := by
  rcases bot_or_real h with rfl | ⟨r, hr, rfl⟩
  · rw [weight_bot]; exact zero_le_one
  · rw [weight_real]; exact Real.exp_le_one_iff.mpr hr

theorem weight_add {x y : EReal} (hx : x ≤ 0) (hy : y ≤ 0) : weight (x + y) = weight x * weight y := by
  rcases bot_or_real hx with rfl | ⟨r, -, rfl⟩
  · rw [EReal.bot_add, weight_bot, zero_mul]
  rcases bot_or_real hy with rfl | ⟨s, -, rfl⟩
  · rw [EReal.add_bot, weight_bot, mul_zero]
  · rw [← EReal.coe_add, weight_real, weight_real, weight_real, Real.exp_add]

theorem weight_ge {x : EReal} {r : ℝ} (hx : x ≤ 0) (h : (r : EReal) ≤ x) : Real.exp r ≤ weight x := by
  rcases bot_or_real hx with rfl | ⟨s, -, rfl⟩
  · exact absurd h (by simp)
  · rw [weight_real]; exact Real.exp_le_exp.mpr (by exact_mod_cast h)

theorem sum_nonpos {x y : EReal} (hx : x ≤ 0) (hy : y ≤ 0) : x + y ≤ 0 := add_nonpos hx hy

section Rows

variable (A : (⟨3, ![65537, 64, 32]⟩ : Shape).Idx → EReal) (B : (⟨3, ![65537, 64, 2]⟩ : Shape).Idx → EReal)
  (C : (⟨2, ![65537, 64]⟩ : Shape).Idx → EReal) (D : (⟨1, ![65536]⟩ : Shape).Idx → BitVec 32)

/-- The probability that each option ends at step `t`. -/
def ending (t : ℕ) : Row := fun l => weight (halt B t l)

/-- The probability that each option is newly chosen at step `t` and takes the action taken. -/
def fresh (t : ℕ) : Row := fun l => weight (begin C t l + act A D t l)

/-- The probability that each option goes on at step `t` and takes the action taken. -/
def kept (t : ℕ) : Row := fun l => weight (stay B t l + act A D t l)

variable {A B C D}

theorem act_le (h : Allowed A B C D) (t : ℕ) (l : Fin 64) : act A D t l ≤ 0 := h.acts _

theorem halt_le (h : Allowed A B C D) (t : ℕ) (l : Fin 64) : halt B t l ≤ 0 := h.stops _

theorem stay_le (h : Allowed A B C D) (t : ℕ) (l : Fin 64) : stay B t l ≤ 0 := h.stops _

theorem begin_le (h : Allowed A B C D) (t : ℕ) (l : Fin 64) : begin C t l ≤ 0 := h.starts _

theorem weights (h : Allowed A B C D) : Weights (ending B) (fresh A C D) (kept A B D) where
  b0 _ l := weight_ge (h.stops _) (h.ends _ l)
  b1 _ _ := weight_le_one (h.stops _)
  e0 _ _ := weight_nonneg (sum_nonpos (h.starts _) (h.acts _))
  e1 _ _ := weight_le_one (sum_nonpos (h.starts _) (h.acts _))
  q0 _ _ := weight_nonneg (sum_nonpos (h.stops _) (h.acts _))
  q1 _ _ := weight_le_one (sum_nonpos (h.stops _) (h.acts _))

/-- The weight of each option after step `n`. -/
def wave (A : (⟨3, ![65537, 64, 32]⟩ : Shape).Idx → EReal) (B : (⟨3, ![65537, 64, 2]⟩ : Shape).Idx → EReal)
    (C : (⟨2, ![65537, 64]⟩ : Shape).Idx → EReal) (D : (⟨1, ![65536]⟩ : Shape).Idx → BitVec 32) (n : ℕ) : Row :=
  steps (fun r => ending B (1 + r)) (fun r => fresh A C D (1 + r)) (fun r => kept A B D (1 + r)) (fresh A C D 0) n

theorem wave_nonneg (h : Allowed A B C D) (n : ℕ) (l : Fin 64) : 0 ≤ wave A B C D n l :=
  ((weights h).shift 1).steps_nonneg ((weights h).e0 0) n l

theorem wave_add (m n p : ℕ) (hp : 1 + m = p) :
    wave A B C D (m + n) = steps (fun r => ending B (p + r)) (fun r => fresh A C D (p + r)) (fun r => kept A B D (p + r)) (wave A B C D m) n := by
  subst hp
  unfold wave
  rw [steps_add]
  simp only [Nat.add_assoc]

end Rows

end Cert.Hmm

end
-- ==== Proof.Blocks.lean ====
/- What the blocks at each grid point hold, from the launch's arrays, and the rows of weights they make. -/
module

public import proofs.«01_k».proof.Proof.Gen.KernelIdeal.Value
public import proofs.«01_k».proof.Proof.Model
public import Idealize.ShloMosaic.Lib.Pointwise
public import Idealize.ShloMosaic.Lib.Pipeline.ValueKit.Point
public import Idealize.ShloMosaic.Lib.StableHlo.RunClose

@[expose] public section

noncomputable section

namespace Cert.Hmm

open Idealize.ShloMosaic Idealize.ShloMosaic.TcCoe Idealize.SL.Sem Cert.KernelIdeal Cert.KernelIdeal.Gen

variable (m : (ℓ : Loc nD τ sig) → Buf (Elt Ideal) ℓ) (c : Dev nD)

/-- A comparison for equality, read as a number, is 1 or 0. -/
theorem unit_word (x y : BitVec 32) : (FloatOps.uitofp (F := Ideal) FTy.f32 (IntOp.cmpi .eq x y) : EReal) = if x = y then 1 else 0 := by
  show (((IntOp.cmpi .eq x y).toNat : ℝ) : EReal) = _
  by_cases h : x = y
  · subst h; simp [IntOp.cmpi]
  · simp [IntOp.cmpi, h]

theorem places : ∀ t : Fin cfg0.N, win0_0.index t = ![t.val, 0, 0] ∧ win0_1.index t = ![t.val, 0, 0] ∧ win0_2.index t = ![t.val, 0]
    ∧ win0_3.index t = ![t.val, 0] ∧ win0_4.index t = ![t.val, 0] ∧ win0_5.index t = ![0, 0] :=
  (by decide +kernel : ∀ t : Fin grid0.N, _)

theorem block4 (g : Fin cfg0.N) (t : Fin 256) (l : Fin 64) (h : 256 * g.val + t.val < 65537) :
    X0_4 m c g (ix2 t l) = m ((c : Thread nD τ).loc main_arg2) (ix2 ⟨256 * g.val + t.val, h⟩ l) := by
  unfold X0_4 Pipeline.Window.fill
  rw [dif_pos (moved0_4 g _)]
  blk_ext [Gen.iblk, Gen.V, places g]

theorem entry_v1 : V m c main_v1 = shapeCast S65537x64 (extractStridedSlice S65537x64x1 ![0, 0, 0] (m ((c : Thread nD τ).loc main_arg1)) slices_S65537x64x2_S65537x64x1_0_0_0) shapeCasts_S65537x64x1_S65537x64 := by
  simp only [V, hostOps0, hostOps0_1, hostOps0_2, List.flatten_cons, List.flatten_nil, List.cons_append, List.nil_append]
  after_results_entrywise []

theorem entry_v3 : V m c main_v3 = shapeCast S65537x64 (extractStridedSlice S65537x64x1 ![0, 0, 1] (m ((c : Thread nD τ).loc main_arg1)) slices_S65537x64x2_S65537x64x1_0_0_1) shapeCasts_S65537x64x1_S65537x64 := by
  simp only [V, hostOps0, hostOps0_1, hostOps0_2, List.flatten_cons, List.flatten_nil, List.cons_append, List.nil_append]
  after_results_entrywise []

theorem entry_v4 : V m c main_v4 = extractStridedSlice S1x64 ![65536, 0] (shapeCast S65537x64 (extractStridedSlice S65537x64x1 ![0, 0, 0] (m ((c : Thread nD τ).loc main_arg1)) slices_S65537x64x2_S65537x64x1_0_0_0) shapeCasts_S65537x64x1_S65537x64) slices_S65537x64_S1x64_65536_0 := by
  simp only [V, hostOps0, hostOps0_1, hostOps0_2, List.flatten_cons, List.flatten_nil, List.cons_append, List.nil_append]
  after_results_entrywise []

theorem entry_v6 : V m c main_v6 = shapeCast S65536x1x32 (uitofp (F := Ideal) .f32 (cmpi .eq
    (broadcastInDim S65536x32 ![0, 1] bcast_S65536x1_S65536x32_0_1 (broadcastInDim S65536x1 ![0] bcast_S65536_S65536x1_0 (m ((c : Thread nD τ).loc main_arg3))))
    (broadcastInDim S65536x32 ![0, 1] bcast_S1x32_S65536x32_0_1 (iotaInDim S1x32 32 1)))) shapeCasts_S65536x32_S65536x1x32 := by
  simp only [V, hostOps0, hostOps0_1, hostOps0_2, List.flatten_cons, List.flatten_nil, List.cons_append, List.nil_append]
  after_results_entrywise []

theorem block2 (g : Fin cfg0.N) (t : Fin 256) (l : Fin 64) (h : 256 * g.val + t.val < 65537) :
    X0_2 m c g (ix2 t l) = m ((c : Thread nD τ).loc main_arg1) (ix3 ⟨256 * g.val + t.val, h⟩ l 0) := by
  unfold X0_2 Pipeline.Window.fill
  rw [dif_pos (moved0_2 g _)]
  trans V m c main_v1 (ix2 ⟨256 * g.val + t.val, h⟩ l)
  · blk_ext [Gen.iblk, places g]
  · rw [entry_v1]
    pointwise

theorem block3 (g : Fin cfg0.N) (t : Fin 256) (l : Fin 64) (h : 256 * g.val + t.val < 65537) :
    X0_3 m c g (ix2 t l) = m ((c : Thread nD τ).loc main_arg1) (ix3 ⟨256 * g.val + t.val, h⟩ l 1) := by
  unfold X0_3 Pipeline.Window.fill
  rw [dif_pos (moved0_3 g _)]
  trans V m c main_v3 (ix2 ⟨256 * g.val + t.val, h⟩ l)
  · blk_ext [Gen.iblk, places g]
  · rw [entry_v3]
    pointwise

theorem block0 (g : Fin cfg0.N) (t : Fin 256) (l : Fin 64) (a : Fin 32) (h : 256 * g.val + t.val < 65537) :
    X0_0 m c g (ix3 t l a) = m ((c : Thread nD τ).loc main_arg0) (ix3 ⟨256 * g.val + t.val, h⟩ l a) := by
  unfold X0_0 Pipeline.Window.fill
  rw [dif_pos (moved0_0 g _)]
  blk_ext [Gen.iblk, Gen.V, places g]

theorem block1 (g : Fin cfg0.N) (t : Fin 256) (a : Fin 32) (h : 256 * g.val + t.val < 65536) :
    iblk m c 1 g (ix3 t (0 : Fin 1) a) = if m ((c : Thread nD τ).loc main_arg3) (ix1 ⟨256 * g.val + t.val, h⟩) = BitVec.ofNat 32 a.val then (1 : EReal) else 0 := by
  trans V m c main_v6 (ix3 ⟨256 * g.val + t.val, h⟩ (0 : Fin 1) a)
  · blk_ext [Gen.iblk, places g]
  · rw [entry_v6]
    pointwise
    rw [unit_word]

theorem block5 (g : Fin cfg0.N) (l : Fin 64) :
    iblk m c 5 g (ix2 (0 : Fin 1) l) = m ((c : Thread nD τ).loc main_arg1) (ix3 (⟨65536, by omega⟩ : Fin 65537) l 0) := by
  trans V m c main_v4 (ix2 (0 : Fin 1) l)
  · blk_ext [Gen.iblk, places g]
  · rw [entry_v4]
    pointwise

/-- The launch's four arrays. -/
abbrev arrA : (⟨3, ![65537, 64, 32]⟩ : Shape).Idx → EReal := m ((c : Thread nD τ).loc main_arg0)
abbrev arrB : (⟨3, ![65537, 64, 2]⟩ : Shape).Idx → EReal := m ((c : Thread nD τ).loc main_arg1)
abbrev arrC : (⟨2, ![65537, 64]⟩ : Shape).Idx → EReal := m ((c : Thread nD τ).loc main_arg2)
abbrev arrD : (⟨1, ![65536]⟩ : Shape).Idx → BitVec 32 := m ((c : Thread nD τ).loc main_arg3)

section Weights

variable {m c}
variable (ok : Allowed (arrA m c) (arrB m c) (arrC m c) (arrD m c))

include ok

/-- The sum over the actions of each log probability times the 0/1 mark of the action taken is the one of the action
    taken. -/
theorem chosen (g : Fin cfg0.N) (t : Fin 256) (l : Fin 64) :
    k0_pay58 (F := Ideal) (X0_0 m c g) (iblk m c 1 g) (ix2 t l) = act (arrA m c) (arrD m c) (256 * g.val + t.val) l := by
  have hg : 256 * g.val + t.val < 65536 := by have := g.isLt; have : cfg0.N = 256 := rfl; omega
  pointwise [k0_pay58]
  have hu : (arrD m c (ix1 ⟨256 * g.val + t.val, hg⟩)).toNat < 32 := ok.taken _
  have hv : (choice (arrD m c) (256 * g.val + t.val)).val = (arrD m c (ix1 ⟨256 * g.val + t.val, hg⟩)).toNat := by
    simp only [choice, tick_of hg]
    exact Nat.mod_eq_of_lt hu
  have hw (x : Fin 32) : arrD m c (ix1 ⟨256 * g.val + t.val, hg⟩) = BitVec.ofNat 32 x.val ↔ x = choice (arrD m c) (256 * g.val + t.val) := by
    rw [Fin.ext_iff, hv, ← BitVec.toNat_inj, BitVec.toNat_ofNat, Nat.mod_eq_of_lt (by have := x.isLt; omega)]
    exact eq_comm
  rw [Finset.sum_eq_single (choice (arrD m c) (256 * g.val + t.val))]
  · rw [block0 m c g t l _ (by omega), block1 m c g t _ hg, if_pos ((hw _).mpr rfl), mul_one]
    simp only [act, row_of (show 256 * g.val + t.val < 65537 by omega)]
  · intro x _ hx
    rw [block1 m c g t _ hg, if_neg fun h => hx ((hw x).mp h), mul_zero]
  · intro h; exact absurd (Finset.mem_univ _) h

theorem held_ending (g : Fin cfg0.N) (t : Fin 256) (l : Fin 64) :
    k0_pay59 (F := Ideal) (X0_2 m c g) (ix2 t l) = ((ending (arrB m c) (256 * g.val + t.val) l : ℝ) : EReal) := by
  have hg : 256 * g.val + t.val < 65537 := by have := g.isLt; have : cfg0.N = 256 := rfl; omega
  pointwise [k0_pay59]
  rw [block2 m c g t l hg]
  simp only [ending, halt, row_of hg]
  exact (weight_coe (ok.stops _)).symm

theorem held_fresh (g : Fin cfg0.N) (t : Fin 256) (l : Fin 64) :
    k0_pay60 (F := Ideal) (X0_0 m c g) (iblk m c 1 g) (X0_4 m c g) (ix2 t l) = ((fresh (arrA m c) (arrC m c) (arrD m c) (256 * g.val + t.val) l : ℝ) : EReal) := by
  have hg : 256 * g.val + t.val < 65537 := by have := g.isLt; have : cfg0.N = 256 := rfl; omega
  pointwise [k0_pay60]
  rw [chosen ok, block4 m c g t l hg]
  simp only [fresh, begin, row_of hg]
  exact (weight_coe (sum_nonpos (ok.starts _) (ok.acts _))).symm

theorem held_kept (g : Fin cfg0.N) (t : Fin 256) (l : Fin 64) :
    k0_pay61 (F := Ideal) (X0_0 m c g) (iblk m c 1 g) (X0_3 m c g) (ix2 t l) = ((kept (arrA m c) (arrB m c) (arrD m c) (256 * g.val + t.val) l : ℝ) : EReal) := by
  have hg : 256 * g.val + t.val < 65537 := by have := g.isLt; have : cfg0.N = 256 := rfl; omega
  pointwise [k0_pay61]
  rw [chosen ok, block3 m c g t l hg]
  simp only [kept, stay, row_of hg]
  exact (weight_coe (sum_nonpos (ok.stops _) (ok.acts _))).symm

theorem held_last (g : Fin cfg0.N) (l : Fin 64) :
    Ideal.exp (iblk m c 5 g (ix2 (0 : Fin 1) l)) = ((ending (arrB m c) 65536 l : ℝ) : EReal) := by
  rw [block5 m c g l]
  simp only [ending, halt, row_of (show 65536 < 65537 by omega)]
  exact (weight_coe (ok.stops _)).symm

end Weights

end Cert.Hmm

end
-- ==== Proof.Logs.lean ====
/- The logarithms the reference carries: sums and products of non-negative weights, at their logs. -/
module

public import proofs.«01_k».proof.Proof.Model
public import proofs.«01_k».proof.Proof.Macro

@[expose] public section

noncomputable section

namespace Cert.Hmm

open Idealize.ShloMosaic

/-- The log of a real number, minus infinity where it is not positive. -/
def lg (r : ℝ) : EReal := Ideal.log (r : EReal)

theorem lg_zero : lg 0 = ⊥ := by
  show (if (0 : ℝ) ≤ 0 then (⊥ : EReal) else _) = ⊥
  rw [if_pos le_rfl]

theorem lg_pos {r : ℝ} (h : 0 < r) : lg r = (Real.log r : ℝ) := by
  show (if r ≤ 0 then (⊥ : EReal) else _) = _
  rw [if_neg (not_le.mpr h)]

theorem lg_ne_top (r : ℝ) : lg r ≠ ⊤ := by
  show (if r ≤ 0 then (⊥ : EReal) else _) ≠ ⊤
  split
  · exact bot_ne_top
  · exact EReal.coe_ne_top _

theorem lg_one : lg 1 = 0 := by rw [lg_pos one_pos, Real.log_one]; rfl

/-- A log probability is the log of its probability. -/
theorem lg_weight {x : EReal} (h : x ≤ 0) : lg (weight x) = x := by
  rcases bot_or_real h with rfl | ⟨r, -, rfl⟩
  · rw [weight_bot, lg_zero]
  · rw [weight_real, lg_pos (Real.exp_pos r), Real.log_exp]

theorem lg_mul {x y : ℝ} (hx : 0 ≤ x) (hy : 0 ≤ y) : lg x + lg y = lg (x * y) := by
  rcases hx.eq_or_lt with rfl | hx
  · rw [zero_mul, lg_zero, EReal.bot_add]
  rcases hy.eq_or_lt with rfl | hy
  · rw [mul_zero, lg_zero, EReal.add_bot]
  rw [lg_pos hx, lg_pos hy, lg_pos (mul_pos hx hy), ← EReal.coe_add, Real.log_mul hx.ne' hy.ne']

theorem exp_lg {x : ℝ} (hx : 0 ≤ x) : Ideal.exp (lg x) = (x : ℝ) := by
  rcases hx.eq_or_lt with rfl | hx
  · rw [lg_zero]; rfl
  · rw [lg_pos hx]; show ((Real.exp (Real.log x) : ℝ) : EReal) = _; rw [Real.exp_log hx]

theorem exp_lg_sub {x : ℝ} (hx : 0 ≤ x) (M : ℝ) : Ideal.exp (lg x - (M : EReal)) = ((x * Real.exp (-M) : ℝ) : EReal) := by
  rcases hx.eq_or_lt with rfl | hx
  · rw [lg_zero, zero_mul, EReal.bot_sub]; rfl
  · rw [lg_pos hx, ← EReal.coe_sub]
    show ((Real.exp (Real.log x - M) : ℝ) : EReal) = _
    rw [sub_eq_add_neg, Real.exp_add, Real.exp_log hx]

/-- A sum of exponentials of logs less a common real number, its log, and the number added back: the log of the sum. -/
theorem lg_sum_shift (X : Fin 64 → ℝ) (hX : ∀ i, 0 ≤ X i) (M : ℝ) :
    (M : EReal) + Ideal.log (∑ i, Ideal.exp (lg (X i) - (M : EReal))) = lg (∑ i, X i) := by
  have h : (∑ i, Ideal.exp (lg (X i) - (M : EReal))) = (((∑ i, X i) * Real.exp (-M) : ℝ) : EReal) := by
    rw [Finset.sum_mul, ← coe_sum]
    exact Finset.sum_congr rfl fun i _ => exp_lg_sub (hX i) M
  rw [h]
  show (M : EReal) + lg _ = _
  have hM : (M : EReal) = lg (Real.exp M) := by rw [lg_pos (Real.exp_pos M), Real.log_exp]
  rw [hM, lg_mul (Real.exp_pos M).le (mul_nonneg (Finset.sum_nonneg fun i _ => hX i) (Real.exp_pos _).le)]
  congr 1
  rw [mul_comm, mul_assoc, ← Real.exp_add, neg_add_cancel, Real.exp_zero, mul_one]

/-- The greatest of some logs is no plus infinity, so with 0 in place of minus infinity it is a real number. -/
theorem guarded (m : EReal) (hm : m ≠ ⊤) : ∃ M : ℝ, (if m = ⊥ then (0 : EReal) else m) = (M : EReal) := by
  by_cases h : m = ⊥
  · exact ⟨0, by rw [if_pos h]; rfl⟩
  · exact ⟨m.toReal, by rw [if_neg h, EReal.coe_toReal hm h]⟩

theorem coe_max (a b : ℝ) : ((max a b : ℝ) : EReal) = max (a : EReal) b := EReal.coe_strictMono.monotone.map_max

/-- The log of a sum from the two logs: the greater, plus the log of 1 plus the exponential of minus their distance. -/
theorem lg_add {x y : ℝ} (hx : 0 ≤ x) (hy : 0 ≤ y) :
    max (lg x) (lg y) + Ideal.log1p (Ideal.exp (-(max (lg x - lg y) (-(lg x - lg y))))) = lg (x + y) := by
  have hz : Ideal.log1p (Ideal.exp (-(⊤ : EReal))) = 0 := by
    show Ideal.log (1 + Ideal.exp (-⊤)) = 0
    rw [EReal.neg_top]
    show Ideal.log (1 + 0) = 0
    rw [add_zero]; exact lg_one
  rcases hx.eq_or_lt with rfl | hx'
  · have h : max ((⊥ : EReal) - lg y) (-((⊥ : EReal) - lg y)) = ⊤ := by
      rw [EReal.bot_sub, EReal.neg_bot]; exact max_eq_right le_top
    rw [lg_zero, h, hz, add_zero, zero_add, max_eq_right bot_le]
  rcases hy.eq_or_lt with rfl | hy'
  · have h : max (lg x - (⊥ : EReal)) (-(lg x - (⊥ : EReal))) = ⊤ := by
      rw [lg_pos hx', EReal.coe_sub_bot]; exact max_eq_left le_top
    rw [lg_zero, h, hz, add_zero, add_zero, max_eq_left bot_le]
  rw [lg_pos hx', lg_pos hy', lg_pos (add_pos hx' hy')]
  set a := Real.log x with ha
  set b := Real.log y with hb
  have ex : Real.exp a = x := Real.exp_log hx'
  have ey : Real.exp b = y := Real.exp_log hy'
  have e1 : max ((a : EReal) - b) (-((a : EReal) - b)) = ((|a - b| : ℝ) : EReal) := by
    rw [← EReal.coe_sub, ← EReal.coe_neg, ← coe_max]; rfl
  rw [e1, ← EReal.coe_neg]
  have e2 : Ideal.log1p (Ideal.exp ((-|a - b| : ℝ) : EReal)) = ((Real.log (1 + Real.exp (-|a - b|)) : ℝ) : EReal) := by
    show Ideal.log (1 + ((Real.exp (-|a - b|) : ℝ) : EReal)) = _
    rw [← EReal.coe_one, ← EReal.coe_add]
    exact lg_pos (by positivity)
  rw [e2, ← coe_max, ← EReal.coe_add]
  congr 1
  have hp : (0 : ℝ) < 1 + Real.exp (-|a - b|) := by positivity
  apply Real.exp_injective
  rw [Real.exp_add, Real.exp_log hp, Real.exp_log (add_pos hx' hy'), mul_add, mul_one, ← Real.exp_add]
  rcases le_total a b with h | h
  · rw [max_eq_right h, abs_of_nonpos (sub_nonpos.mpr h), ey, show b + -(-(a - b)) = a by ring, ex, add_comm]
  · rw [max_eq_left h, abs_of_nonneg (sub_nonneg.mpr h), ex, show a + -(a - b) = b by ring, ey]

end Cert.Hmm

end
-- ==== Proof.Grid.lean ====
/- The 256 grid points in order: what is carried after each, and the number the last one leaves. -/
module

public import proofs.«01_k».proof.Proof.Points
public import proofs.«01_k».proof.Proof.Blocks
public import proofs.«01_k».proof.Proof.Logs

@[expose] public section

noncomputable section

namespace Cert.Hmm

open Idealize.ShloMosaic Idealize.ShloMosaic.TcCoe Idealize.SL.Sem Cert.KernelIdeal Cert.KernelIdeal.Gen Cert.KernelIdeal.Value

variable {m : (ℓ : Loc nD τ sig) → Buf (Elt Ideal) ℓ} {c : Dev nD}

/-- What the two carried arrays hold stands for the row of weights `T`, within `k` roundings' reach. -/
def Holds (acc : Vec Ideal S1x1 .f32 × Vec Ideal S1x64 .f32 × Vec Ideal S1x1 .i32) (T : Row) (k : ℕ) : Prop :=
  ∃ (G : Row) (w : ℤ), (∀ l, acc.2.1 (ix2 0 l) = ((G l : ℝ) : EReal)) ∧ acc.2.2 (ix2 0 0) = BitVec.ofInt 32 w ∧ Carried T G w k

variable (ok : Allowed (arrA m c) (arrB m c) (arrC m c) (arrD m c))

include ok

theorem first_point (t : Fin cfg0.N) (ht : t.val = 0) :
    Holds (stAt0 m c t.val t.isLt junk0) (wave (arrA m c) (arrB m c) (arrC m c) (arrD m c) 255) 32 := by
  have h0 : t.val % 256 = 0 := by omega
  have h1 : ¬t.val % 256 = 255 := by omega
  rw [stAt0_A m c t _ h0 h1]
  obtain ⟨G, w, g1, g2, g3⟩ := first_carried (hB := held_ending ok t) (hE := held_fresh ok t) (hQ := held_kept ok t)
    (hw := (weights ok).shift (256 * t.val)) (hc0 := (hcond0_0 t).mpr h0) (hc1 := fun h => h1 ((hcond0_1 t).mp h)) (x5 := iblk m c 5 t)
    (c := c) (i := grid0.coords t) ..
  refine ⟨G, w, g1, g2, ?_⟩
  unfold wave
  simpa only [ht, Nat.mul_zero, Nat.zero_add] using g3

theorem middle_point (t : Fin cfg0.N) (n : ℕ) (hn : n + 1 = t.val) (h1 : t.val < 255) (acc) (k : ℕ)
    (h : Holds acc (wave (arrA m c) (arrB m c) (arrC m c) (arrD m c) (256 * n + 255)) k) :
    Holds (stAt0 m c t.val t.isLt acc) (wave (arrA m c) (arrB m c) (arrC m c) (arrD m c) (256 * (n + 1) + 255)) (k + 32) := by
  have h0' : ¬t.val % 256 = 0 := by omega
  have h1' : ¬t.val % 256 = 255 := by omega
  obtain ⟨G0, w0, f1, f2, f3⟩ := h
  rw [stAt0_B m c t _ h0' h1']
  obtain ⟨G, w, g1, g2, g3⟩ := middle_carried (hB := held_ending ok t) (hE := held_fresh ok t) (hQ := held_kept ok t)
    (hw := (weights ok).shift (256 * t.val)) (hc0 := fun h => h0' ((hcond0_0 t).mp h)) (hc1 := fun h => h1' ((hcond0_1 t).mp h)) (x5 := iblk m c 5 t)
    (c := c) (i := grid0.coords t) (hF := f1) (hw2 := f2) (hc := f3) ..
  refine ⟨G, w, g1, g2, ?_⟩
  rw [show 256 * (n + 1) + 255 = 256 * n + 255 + 256 by omega, wave_add _ _ (256 * t.val) (by omega)]
  exact g3

theorem carried_after : ∀ (n : ℕ) (h : 0 + n < cfg0.N), n < 255 →
    Holds (Pipeline.accAt (fun n h => stAt0 m c n h junk0) (stAt0 m c) 0 n h)
      (wave (arrA m c) (arrB m c) (arrC m c) (arrD m c) (256 * n + 255)) (32 * (n + 1))
  | 0, h, _ => first_point ok ⟨0, h⟩ rfl
  | n + 1, h, h2 => by
    rw [Pipeline.accAt_succ]
    exact middle_point ok ⟨0 + (n + 1), h⟩ n (Nat.zero_add _).symm (show 0 + (n + 1) < 255 by omega) _ (32 * (n + 1)) (carried_after n (Nat.lt_of_succ_lt h) (by omega))

theorem last_point (t : Fin cfg0.N) (ht : t.val = 255) (acc)
    (h : Holds acc (wave (arrA m c) (arrB m c) (arrC m c) (arrD m c) (256 * 254 + 255)) (32 * 255)) :
    ∃ (G : Row) (w : ℤ) (A : Vec Ideal S1x64 .f32) (E : Vec Ideal S1x1 .i32),
      (∀ l, A (ix2 0 l) = ((G l : ℝ) : EReal)) ∧ E (ix2 0 0) = BitVec.ofInt 32 w
      ∧ Carried (wave (arrA m c) (arrB m c) (arrC m c) (arrD m c) 65535) G w (32 * 256)
      ∧ (stAt0 m c t.val t.isLt acc).1 = k0_pay11 (F := Ideal) A E (iblk m c 5 t) := by
  have h0' : ¬t.val % 256 = 0 := by omega
  have h1' : t.val % 256 = 255 := by omega
  obtain ⟨G0, w0, f1, f2, f3⟩ := h
  rw [stAt0_C m c t _ h0' h1']
  obtain ⟨G, w, A, E, g1, g2, g3, g4⟩ := last_carried (hB := held_ending ok t) (hE := held_fresh ok t) (hQ := held_kept ok t)
    (hw := (weights ok).shift (256 * t.val)) (hc0 := fun h => h0' ((hcond0_0 t).mp h)) (hc1 := (hcond0_1 t).mpr h1') (x5 := iblk m c 5 t)
    (c := c) (i := grid0.coords t) (hF := f1) (hw2 := f2) (hc := f3) ..
  refine ⟨G, w, A, E, g1, g2, ?_, g4⟩
  rw [show 65535 = 256 * 254 + 255 + 256 by omega, wave_add _ _ (256 * t.val) (by omega)]
  exact g3

/-- The kernel's number: the negated log of the mass after the last step, each option ending at the row after it. -/
theorem value_point (t : Fin cfg0.N) (G : Row) (w : ℤ) (A : Vec Ideal S1x64 .f32) (E : Vec Ideal S1x1 .i32) (T : Row)
    (hA : ∀ l, A (ix2 0 l) = ((G l : ℝ) : EReal)) (hE : E (ix2 0 0) = BitVec.ofInt 32 w) (hc : Carried T G w (32 * 256)) :
    k0_pay11 (F := Ideal) A E (iblk m c 5 t) (ix2 0 0) = -lg (∑ l, T l * ending (arrB m c) 65536 l) := by
  have hsum : ∑ l, T l * ending (arrB m c) 65536 l = (∑ l, G l * ending (arrB m c) 65536 l) * (2 : ℝ) ^ w := by
    rw [Finset.sum_mul]
    exact Finset.sum_congr rfl fun l _ => by rw [hc.eq l]; ring
  pointwise [k0_pay11]
  simp only [hA, hE, held_last ok t]
  have hw : (BitVec.ofInt 32 w).toInt = w := by
    have := abs_le.mp hc.word
    push_cast at this
    rw [BitVec.toInt_ofInt]
    exact Int.bmod_eq_of_le (by omega) (by omega)
  have hn : Named.named (F := Ideal) Cert.KernelIdeal.κ "ln2" (φ := .f32) 0x3F317218#32 = ((Real.log 2 : ℝ) : EReal) := rfl
  have hf : FloatOps.sitofp (F := Ideal) FTy.f32 (BitVec.ofInt 32 w) = (((w : ℤ) : ℝ) : EReal) := by
    show ((((BitVec.ofInt 32 w).toInt : ℤ) : ℝ) : EReal) = _
    rw [hw]
  have hp : (0 : ℝ) < (2 : ℝ) ^ w := by positivity
  have h0 : 0 ≤ ∑ l, G l * ending (arrB m c) 65536 l :=
    Finset.sum_nonneg fun l _ => mul_nonneg (hc.pos l) (weight_nonneg (ok.stops _))
  rw [hf, hn, hsum, mul_comm _ ((2 : ℝ) ^ w), ← lg_mul hp.le h0, lg_pos hp, Real.log_zpow, EReal.coe_mul, zero_sub]
  simp only [← EReal.coe_mul, coe_sum]
  rfl

/-- The kernel's result. -/
theorem kernel_value : Cert.KernelIdeal.Value.G6 m c (ix2 0 0)
    = -lg (∑ l, wave (arrA m c) (arrB m c) (arrC m c) (arrD m c) 65535 l * ending (arrB m c) 65536 l) := by
  have key (n : ℕ) (hn : n = 254) (h : 0 + (n + 1) < cfg0.N) :
      (Pipeline.accAt (fun n h => stAt0 m c n h junk0) (stAt0 m c) 0 (n + 1) h).1 (ix2 0 0)
        = -lg (∑ l, wave (arrA m c) (arrB m c) (arrC m c) (arrD m c) 65535 l * ending (arrB m c) 65536 l) := by
    have hh := carried_after ok n (Nat.lt_of_succ_lt h) (by omega)
    rw [show 256 * n + 255 = 256 * 254 + 255 by omega, show 32 * (n + 1) = 32 * 255 by omega] at hh
    rw [Pipeline.accAt_succ]
    obtain ⟨G, w, A, E, hA, hE, hc, he⟩ := last_point ok ⟨0 + (n + 1), h⟩ (show 0 + (n + 1) = 255 by omega) _ hh
    refine (congrFun he (ix2 0 0)).trans ?_
    exact value_point ok _ G w A E _ hA hE hc
  rw [G6_last]
  exact key 254 rfl _

end Cert.Hmm

end
-- ==== Proof.Reference.lean ====
/- The reference, row by row: what its loop carries and what one trip makes of it. -/
module

public import proofs.«01_k».proof.Proof.Gen.ReferenceIdeal.Run
public import proofs.«01_k».proof.Proof.Logs
public import Idealize.ShloMosaic.Lib.Pointwise
public import Idealize.ShloMosaic.Lib.StableHlo.RunClose

@[expose] public section

set_option maxRecDepth 8192

noncomputable section

namespace Cert.Hmm

open Idealize.ShloMosaic Idealize.ShloMosaic.TcCoe Idealize.SL.Sem Cert.ReferenceIdeal Cert.ReferenceIdeal.Gen Cert.ReferenceIdeal.Value

/-- What the loop holds after trip `k`: the arrays it reads, the trip's number, the logs of the weights. -/
structure Trip (A : (⟨3, ![65537, 64, 32]⟩ : Shape).Idx → EReal) (B : (⟨3, ![65537, 64, 2]⟩ : Shape).Idx → EReal)
    (C : (⟨2, ![65537, 64]⟩ : Shape).Idx → EReal) (D : (⟨1, ![65536]⟩ : Shape).Idx → BitVec 32) (k : ℕ)
    (V0 : Valuation τ sig (Elt Ideal)) : Prop where
  stop : ∀ (t : Fin 65535) (l : Fin 64) (j : Fin 2), (V0 (Proc.devRef .tc main_v17_0) (ix3 t l j) : EReal) = B (ix3 (row (1 + t.val)) l j)
  start : ∀ (t : Fin 65535) (l : Fin 64), (V0 (Proc.devRef .tc main_v17_1) (ix2 t l) : EReal) = begin C (1 + t.val) l
  taken : ∀ (t : Fin 65535) (l : Fin 64), (V0 (Proc.devRef .tc main_v17_2) (ix2 t l) : EReal) = act A D (1 + t.val) l
  same : ∀ i j : Fin 64, (V0 (Proc.devRef .tc main_v17_3) (ix2 i j) : BitVec 1) = if i = j then 1#1 else 0#1
  count : ∀ i, (V0 (Proc.devRef .tc main_v17_4) i : BitVec 32) = BitVec.ofNat 32 k
  logs : ∀ l : Fin 64, (V0 (Proc.devRef .tc main_v17_5) (ix1 l) : EReal) = lg (wave A B C D k l)

section OneTrip

variable {A : (⟨3, ![65537, 64, 32]⟩ : Shape).Idx → EReal} {B : (⟨3, ![65537, 64, 2]⟩ : Shape).Idx → EReal}
  {C : (⟨2, ![65537, 64]⟩ : Shape).Idx → EReal} {D : (⟨1, ![65536]⟩ : Shape).Idx → BitVec 32} {k : ℕ} {V0 : Valuation τ sig (Elt Ideal)}
variable (ok : Allowed A B C D) (h : Trip A B C D k V0) (hk : k < 65535)

theorem whole_count (hk : k < 65535) : (BitVec.ofNat 32 k).toInt = (k : ℤ) := by
  rw [BitVec.toInt_eq_toNat_of_lt (by rw [BitVec.toNat_ofNat]; omega), BitVec.toNat_ofNat, Nat.mod_eq_of_lt (by omega)]

/-- Where a trip's slice of the rows starts: at the trip's number, and at the beginning of each row. -/
theorem place2 (ht : S1x64.rank = S65535x64.rank) (hk : k < 65535) (n : Vec Ideal S_ .i32) (hn : ∀ i, n i = BitVec.ofNat 32 k) :
    Host.clampedStart S65535x64 S1x64 ht (fun i => BitVec.toInt ((![n, constantI S_ 32 0#32] : Fin 2 → Vec Ideal S_ .i32) i (Shape.Idx.first h_S_))) 0 = k
    ∧ Host.clampedStart S65535x64 S1x64 ht (fun i => BitVec.toInt ((![n, constantI S_ 32 0#32] : Fin 2 → Vec Ideal S_ .i32) i (Shape.Idx.first h_S_))) 1 = 0 := by
  have e0 : BitVec.toInt ((![n, constantI S_ 32 0#32] : Fin 2 → Vec Ideal S_ .i32) 0 (Shape.Idx.first h_S_)) = (k : ℤ) :=
    (congrArg BitVec.toInt (hn _)).trans (whole_count hk)
  have e1 : BitVec.toInt ((![n, constantI S_ 32 0#32] : Fin 2 → Vec Ideal S_ .i32) 1 (Shape.Idx.first h_S_)) = ((0 : ℕ) : ℤ) := by
    show BitVec.toInt 0#32 = _
    decide
  exact ⟨Host.clampedStart_of_le ht _ 0 k e0 (show k + 1 ≤ 65535 by omega), Host.clampedStart_of_le ht _ 1 0 e1 (show 0 + 64 ≤ 64 by omega)⟩

theorem place3 (ht : S1x64x2.rank = S65535x64x2.rank) (hk : k < 65535) (n : Vec Ideal S_ .i32) (hn : ∀ i, n i = BitVec.ofNat 32 k) :
    Host.clampedStart S65535x64x2 S1x64x2 ht (fun i => BitVec.toInt ((![n, constantI S_ 32 0#32, constantI S_ 32 0#32] : Fin 3 → Vec Ideal S_ .i32) i (Shape.Idx.first h_S_))) 0 = k
    ∧ Host.clampedStart S65535x64x2 S1x64x2 ht (fun i => BitVec.toInt ((![n, constantI S_ 32 0#32, constantI S_ 32 0#32] : Fin 3 → Vec Ideal S_ .i32) i (Shape.Idx.first h_S_))) 1 = 0
    ∧ Host.clampedStart S65535x64x2 S1x64x2 ht (fun i => BitVec.toInt ((![n, constantI S_ 32 0#32, constantI S_ 32 0#32] : Fin 3 → Vec Ideal S_ .i32) i (Shape.Idx.first h_S_))) 2 = 0 := by
  have e0 : BitVec.toInt ((![n, constantI S_ 32 0#32, constantI S_ 32 0#32] : Fin 3 → Vec Ideal S_ .i32) 0 (Shape.Idx.first h_S_)) = (k : ℤ) :=
    (congrArg BitVec.toInt (hn _)).trans (whole_count hk)
  have e1 : BitVec.toInt ((![n, constantI S_ 32 0#32, constantI S_ 32 0#32] : Fin 3 → Vec Ideal S_ .i32) 1 (Shape.Idx.first h_S_)) = ((0 : ℕ) : ℤ) := by
    show BitVec.toInt 0#32 = _
    decide
  have e2 : BitVec.toInt ((![n, constantI S_ 32 0#32, constantI S_ 32 0#32] : Fin 3 → Vec Ideal S_ .i32) 2 (Shape.Idx.first h_S_)) = ((0 : ℕ) : ℤ) := by
    show BitVec.toInt 0#32 = _
    decide
  exact ⟨Host.clampedStart_of_le ht _ 0 k e0 (show k + 1 ≤ 65535 by omega), Host.clampedStart_of_le ht _ 1 0 e1 (show 0 + 64 ≤ 64 by omega),
    Host.clampedStart_of_le ht _ 2 0 e2 (show 0 + 2 ≤ 2 by omega)⟩

/-- The weight that moves from option `i` to option `j`, before the action. -/
def moved (A : (⟨3, ![65537, 64, 32]⟩ : Shape).Idx → EReal) (B : (⟨3, ![65537, 64, 2]⟩ : Shape).Idx → EReal)
    (C : (⟨2, ![65537, 64]⟩ : Shape).Idx → EReal) (D : (⟨1, ![65536]⟩ : Shape).Idx → BitVec 32) (k : ℕ) (i j : Fin 64) : ℝ :=
  wave A B C D k i * (ending B (1 + k) i * weight (begin C (1 + k) j) + if i = j then weight (stay B (1 + k) i) else 0)

theorem moved_nonneg (ok : Allowed A B C D) (k : ℕ) (i j : Fin 64) : 0 ≤ moved A B C D k i j := by
  refine mul_nonneg (wave_nonneg ok k i) (add_nonneg (mul_nonneg (weight_nonneg (ok.stops _)) (weight_nonneg (ok.starts _))) ?_)
  split
  · exact weight_nonneg (ok.stops _)
  · exact le_rfl

theorem zero_word : (FloatOps.sitofp (F := Ideal) FTy.f32 0#32 : EReal) = 0 := by
  show (((0#32 : BitVec 32).toInt : ℝ) : EReal) = 0
  simp

theorem fold_lt_top {ι : Type} (s : Finset ι) (f : ι → EReal) (hf : ∀ i ∈ s, f i < ⊤) : s.fold max (Ideal.ofBits FTy.f32 0xFF800000#32) f ≠ ⊤ :=
  ((Finset.fold_max_lt _).mpr ⟨by rw [neg_inf]; exact bot_lt_top, hf⟩).ne

include h hk

theorem stop_row (l : Fin 64) (j : Fin 2) : (res_main_while0b_v32 V0 (ix2 l j) : EReal) = B (ix3 (row (1 + k)) l j) := by
  pointwise [res_main_while0b_v32]
  refine (congrArg (fun x => V0 (Proc.devRef .tc main_v17_0) x) (congr (congrArg₂ (fun (a : Fin 65535) (b : Fin 64) (c : Fin 2) => ix3 a b c) (Fin.ext ?_) (Fin.ext ?_)) (Fin.ext ?_))).trans (h.stop ⟨k, hk⟩ l j)
  · exact (place3 rfl hk _ h.count).1
  · exact (congrArg (· + l.val) (place3 rfl hk _ h.count).2.1).trans (Nat.zero_add _)
  · exact (congrArg (· + j.val) (place3 rfl hk _ h.count).2.2).trans (Nat.zero_add _)

theorem begun (i j : Fin 64) : (res_main_while0b_v43 V0 (ix2 i j) : EReal) = halt B (1 + k) i + begin C (1 + k) j := by
  pointwise [res_main_while0b_v43]
  rw [stop_row h hk]
  refine congrArg (halt B (1 + k) i + ·) ?_
  refine (congrArg (fun x => V0 (Proc.devRef .tc main_v17_1) x) (congrArg₂ (fun (a : Fin 65535) (b : Fin 64) => ix2 a b) (Fin.ext ?_) (Fin.ext ?_))).trans (h.start ⟨k, hk⟩ j)
  · exact (place2 rfl hk _ h.count).1
  · exact (congrArg (· + j.val) (place2 rfl hk _ h.count).2).trans (Nat.zero_add _)

include ok

theorem moved_log (i j : Fin 64) : (res_main_while0b_v61 V0 (ix2 i j) : EReal) = lg (moved A B C D k i j) := by
  pointwise [res_main_while0b_v61, res_main_while0b_v48, res_main_while0b_v44]
  have hb : 0 ≤ ending B (1 + k) i := weight_nonneg (ok.stops _)
  have hs : 0 ≤ weight (begin C (1 + k) j) := weight_nonneg (ok.starts _)
  have ho : 0 ≤ weight (stay B (1 + k) i) := weight_nonneg (ok.stops _)
  have e1 : halt B (1 + k) i + begin C (1 + k) j = lg (ending B (1 + k) i * weight (begin C (1 + k) j)) := by
    rw [← lg_mul hb hs]
    exact congrArg₂ (· + ·) (lg_weight (ok.stops _)).symm (lg_weight (ok.starts _)).symm
  have e2 : (B (ix3 (row (1 + k)) i (1 : Fin 2)) : EReal) = lg (weight (stay B (1 + k) i)) := (lg_weight (ok.stops _)).symm
  rw [begun h hk, stop_row h hk, h.logs, h.same, e1, e2]
  simp only [ne_eq, not_true_eq_false, if_false]
  have hw := wave_nonneg ok k i
  unfold moved
  by_cases hij : i = j
  · rw [if_pos hij, if_pos hij, ← lg_mul hw (add_nonneg (mul_nonneg hb hs) ho), ← lg_add (mul_nonneg hb hs) ho]
    rfl
  · rw [if_neg hij, if_neg hij, add_zero, ← lg_mul hw (mul_nonneg hb hs)]
    rfl

theorem greatest (j : Fin 64) : ∃ M : ℝ, (res_main_while0b_v65 V0 (ix1 j) : EReal) = (M : EReal) := by
  pointwise [res_main_while0b_v65, res_main_while0b_v62]
  rw [zero_word]
  refine guarded _ (fold_lt_top _ _ fun x _ => ?_)
  obtain ⟨i, l, rfl⟩ : ∃ (i l : Fin 64), x = ix2 i l := ⟨x 0, x 1, by idx_vars x⟩
  rw [moved_log ok h hk]
  exact lt_top_iff_ne_top.mpr (lg_ne_top _)

theorem next_logs (j : Fin 64) : (step_main_v17_5 V0 (ix1 j) : EReal) = lg (wave A B C D (k + 1) j) := by
  unfold step_main_v17_5
  rw [id_eq]
  obtain ⟨M, hM⟩ := greatest ok h hk j
  pointwise
  simp only [hM, moved_log ok h hk]
  rw [lg_sum_shift _ (fun i => moved_nonneg ok k i j) M]
  have ht : (V0 (Proc.devRef .tc main_v17_2) (ix2 (⟨k, hk⟩ : Fin 65535) j) : EReal) = lg (weight (act A D (1 + k) j)) := by
    rw [lg_weight (act_le ok _ _)]
    exact h.taken ⟨k, hk⟩ j
  have hn : 0 ≤ ∑ i, moved A B C D k i j := Finset.sum_nonneg fun i _ => moved_nonneg ok k i j
  have hv : wave A B C D (k + 1) j = (∑ i, moved A B C D k i j) * weight (act A D (1 + k) j) := by
    show stepRow (wave A B C D k) (ending B (1 + k)) (fresh A C D (1 + k)) (kept A B D (1 + k)) j = _
    simp only [stepRow, mass, moved, fresh, kept, mul_add, Finset.sum_add_distrib, mul_ite, mul_zero, Finset.sum_ite_eq', Finset.mem_univ, if_true,
      weight_add (begin_le ok _ _) (act_le ok _ _), weight_add (stay_le ok _ _) (act_le ok _ _), ← mul_assoc, ← Finset.sum_mul, add_mul]
  rw [hv]
  refine Eq.trans ?_ (lg_mul hn (weight_nonneg (act_le ok _ _)))
  refine congrArg (lg (∑ i, moved A B C D k i j) + ·) (Eq.trans ?_ ht)
  refine congrArg (fun x => V0 (Proc.devRef .tc main_v17_2) x) (congrArg₂ (fun (a : Fin 65535) (b : Fin 64) => ix2 a b) (Fin.ext ?_) (Fin.ext ?_))
  · exact (place2 rfl hk _ h.count).1
  · exact (congrArg (· + j.val) (place2 rfl hk _ h.count).2).trans (Nat.zero_add _)

/-- One trip on: the arrays stay, the number goes up by one, the logs are the next weights'. -/
theorem next_trip : Trip A B C D (k + 1) (STEP V0) where
  stop t l j := (congrFun (STEP_main_v17_0 V0) _).trans (h.stop t l j)
  start t l := (congrFun (STEP_main_v17_1 V0) _).trans (h.start t l)
  taken t l := (congrFun (STEP_main_v17_2 V0) _).trans (h.taken t l)
  same i j := (congrFun (STEP_main_v17_3 V0) _).trans (h.same i j)
  count i := by
    refine (congrFun (STEP_main_v17_4 V0) i).trans ?_
    have up (w : BitVec 32) (hw : w = BitVec.ofNat 32 k) : w + 1#32 = BitVec.ofNat 32 (k + 1) := by rw [hw, BitVec.ofNat_add]
    exact up _ (h.count i)
  logs l := (congrFun (STEP_main_v17_5 V0) _).trans (next_logs ok h hk l)

end OneTrip

section Loop

variable {A : (⟨3, ![65537, 64, 32]⟩ : Shape).Idx → EReal} {B : (⟨3, ![65537, 64, 2]⟩ : Shape).Idx → EReal}
  {C : (⟨2, ![65537, 64]⟩ : Shape).Idx → EReal} {D : (⟨1, ![65536]⟩ : Shape).Idx → BitVec 32} {V0 : Valuation τ sig (Elt Ideal)}
variable (ok : Allowed A B C D)

include ok

theorem all_trips (h : Trip A B C D 0 V0) : ∀ k, k ≤ 65535 → Trip A B C D k (STEP^[k] V0)
  | 0, _ => h
  | k + 1, hk => by
    rw [Function.iterate_succ_apply']
    exact next_trip ok (all_trips h k (by omega)) (by omega)

/-- The number after the loop: the negated log of the mass, each option ending at the row after the last step. -/
theorem out_value {k : ℕ} (h : Trip A B C D k V0) (hB : ∀ i, (V0 (Proc.devRef .tc main_arg1) i : EReal) = B i) :
    (out_main_v31 V0 (ix2 (0 : Fin 1) (0 : Fin 1)) : EReal) = -lg (∑ l, wave A B C D k l * ending B 65536 l) := by
  have e (l : Fin 64) : lg (wave A B C D k l) + B (ix3 (65536 : Fin 65537) l (0 : Fin 2)) = lg (wave A B C D k l * ending B 65536 l) := by
    refine Eq.trans ?_ (lg_mul (wave_nonneg ok k l) (weight_nonneg (ok.stops _)))
    exact congrArg (lg (wave A B C D k l) + ·) (lg_weight (ok.stops _)).symm
  have pos (l : Fin 64) : 0 ≤ wave A B C D k l * ending B 65536 l := mul_nonneg (wave_nonneg ok k l) (weight_nonneg (ok.stops _))
  pointwise [out_main_v31]
  simp only [h.logs, hB, e, zero_word]
  generalize hm : Finset.fold max (Ideal.ofBits FTy.f32 0xFF800000#32) _ _ = top
  have ht : top ≠ ⊤ := by
    rw [← hm]
    refine fold_lt_top _ _ fun x _ => ?_
    obtain ⟨l, rfl⟩ : ∃ l : Fin 64, x = ix1 l := ⟨x 0, by idx_vars x⟩
    have low (y : EReal) (hy : y = lg (wave A B C D k l)) : y + B (ix3 (65536 : Fin 65537) l (0 : Fin 2)) < ⊤ := by
      rw [hy, e l]
      exact lt_top_iff_ne_top.mpr (lg_ne_top _)
    exact low _ (h.logs l)
  rw [neg_inf]
  obtain ⟨M, hM⟩ := guarded top ht
  rw [hM]
  rw [lg_sum_shift _ pos M]

end Loop

end Cert.Hmm

end
-- ==== Proof.Entry.lean ====
/- What the reference's loop starts from, and the precondition read element by element. -/
module

public import proofs.«01_k».proof.Proof.Reference
public import Idealize.ShloMosaic.Lib.ReduceAll
public import Idealize.ShloMosaic.Lib.Pipeline.ValueKit.Point

@[expose] public section

set_option maxRecDepth 8192

noncomputable section

namespace Cert.Hmm

open Idealize.ShloMosaic Idealize.ShloMosaic.TcCoe Idealize.SL.Sem Cert.ReferenceIdeal Cert.ReferenceIdeal.Gen Cert.ReferenceIdeal.Value Idealize.ShloMosaic.StableHlo

/-- Picking one action per step: row `t` of the result is row `t` of the table at the action the step's index names. -/
theorem picked {α : Type} (x : S65536x64x32.Idx → α) (idx : IVec S65536x1x1 32) (t : Fin 65536) (l : Fin 64) (a : Fin 32)
    (e : idx (ix3 t (0 : Fin 1) (0 : Fin 1)) = BitVec.ofNat 32 a.val) :
    Host.gather gather_S65536x64x32_S65536x1x1_S65536x64x1_1_2_0_0_2_2_1641 x idx (ix3 t l (0 : Fin 1)) = x (ix3 t l a) := by
  refine congrArg x (funext fun q => Fin.ext ?_)
  have hq : q = 0 ∨ q = 1 ∨ q = 2 := by
    match q with
    | ⟨0, _⟩ => exact Or.inl rfl
    | ⟨1, _⟩ => exact Or.inr (Or.inl rfl)
    | ⟨2, _⟩ => exact Or.inr (Or.inr rfl)
  generalize hd : gather_S65536x64x32_S65536x1x1_S65536x64x1_1_2_0_0_2_2_1641 = d
  show d.start (ix3 t l (0 : Fin 1)) idx q + d.batchCoord (ix3 t l (0 : Fin 1)) q + d.offCoord (ix3 t l (0 : Fin 1)) q = _
  subst hd
  rcases hq with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (by decide)]
    rfl
  · rw [GatherDims.batchCoord_eq_zero _ _ _ (fun h => by simp [gather_S65536x64x32_S65536x1x1_S65536x64x1_1_2_0_0_2_2_1641] at h)]
    unfold GatherDims.start
    rw [dif_neg (fun h => by simp [gather_S65536x64x32_S65536x1x1_S65536x64x1_1_2_0_0_2_2_1641] at h)]
    unfold GatherDims.offCoord
    rw [dif_pos (by decide)]
    simp only [Nat.zero_add]
    rfl
  · rw [GatherDims.batchCoord_eq_zero _ _ _ (fun h => by simp [gather_S65536x64x32_S65536x1x1_S65536x64x1_1_2_0_0_2_2_1641] at h),
      GatherDims.offCoord_eq_zero _ _ _ (fun h => ((GatherDims.mem_sKept _ _).mp h).1 (List.mem_singleton.mpr rfl))]
    simp only [Nat.add_zero]
    unfold GatherDims.start
    rw [dif_pos (by decide)]
    have hi : gather_S65536x64x32_S65536x1x1_S65536x64x1_1_2_0_0_2_2_1641.siIdx (ix3 t l (0 : Fin 1)) ⟨List.idxOf (2 : Fin 3) gather_S65536x64x32_S65536x1x1_S65536x64x1_1_2_0_0_2_2_1641.startIndexMap,
        List.idxOf_lt_length_iff.2 (List.mem_singleton.mpr rfl)⟩ = ix3 t (0 : Fin 1) (0 : Fin 1) := by
      funext b; refine Fin.ext ?_
      match b with
      | ⟨0, _⟩ => rfl
      | ⟨1, _⟩ => rfl
      | ⟨2, _⟩ => rfl
    rw [hi, e]
    have ha := a.isLt
    show min (BitVec.ofNat 32 a.val).toInt.toNat 31 = a.val
    rw [BitVec.toInt_eq_toNat_of_lt (by rw [BitVec.toNat_ofNat]; omega), BitVec.toNat_ofNat]
    omega

section Entry

/-- An index below zero counts from the end. -/
abbrev wrapped (d : IVec S65536x1x1 32) : IVec S65536x1x1 32 :=
  select (cmpi .slt d (broadcastInDim S65536x1x1 ![] bcast_S_S65536x1x1 (constantI S_ 32 0#32)))
    (addi d (broadcastInDim S65536x1x1 ![] bcast_S_S65536x1x1 (constantI S_ 32 32#32))) d

/-- Whether each index lies in the table. -/
abbrev inside (d : IVec S65536x1x1 32) : IVec S65536x1 1 :=
  Host.reduce IntOp.andi (andi (cmpi .sge d (broadcastInDim S65536x1x1 ![] bcast_S_S65536x1x1 (constantI S_ 32 0#32)))
    (cmpi .sle d (broadcastInDim S65536x1x1 ![0, 1, 2] bcast_S1x1x1_S65536x1x1_0_1_2 (broadcastInDim S1x1x1 ![2] bcast_S1_S1x1x1_2 (constantI S1 32 31#32)))))
    (constantI S_ 1 1#1) reducesTo_S65536x1x1_S65536x1_d2 h_S_

/-- One entry per step and option: the table's at the step's index, a fill value where the index lies outside. -/
abbrev took (x : FVec Ideal S65536x64x32 .f32) (d : IVec S65536x1x1 32) : FVec Ideal S65536x64x1 .f32 :=
  select (broadcastInDim S65536x64x1 ![0, 2] bcast_S65536x1_S65536x64x1_0_2 (inside (wrapped d)))
    (Host.gather gather_S65536x64x32_S65536x1x1_S65536x64x1_1_2_0_0_2_2_1641 x (wrapped d))
    (broadcastInDim S65536x64x1 ![] bcast_S_S65536x64x1 (constant S_ .f32 0x7FC00000#32))

variable (V0 : Valuation τ sig (Elt Ideal))

theorem first_v0 : after hostOps0 V0 (Proc.devRef .tc main_v0) = extractStridedSlice S65536x64x32 ![0, 0, 0] (V0 (Proc.devRef .tc main_arg0)) slices_S65537x64x32_S65536x64x32_0_0_0 := by
  after_results_entrywise []

theorem first_v1 : after hostOps0 V0 (Proc.devRef .tc main_v1) = broadcastInDim S65536x1x1 ![0] bcast_S65536_S65536x1x1_0 (V0 (Proc.devRef .tc main_arg3)) := by
  after_results_entrywise []

set_option maxRecDepth 100000 in
set_option maxHeartbeats 2000000 in
theorem second_v2 : after hostOps0_1 V0 (Proc.devRef .tc main_v2) = took (V0 (Proc.devRef .tc main_v0)) (V0 (Proc.devRef .tc main_v1)) := by
  after_results_entrywise []

theorem third_stop : after hostOps0_2 V0 (Proc.devRef .tc main_v17_0) = extractStridedSlice S65535x64x2 ![1, 0, 0] (V0 (Proc.devRef .tc main_arg1)) slices_S65537x64x2_S65535x64x2_1_0_0 := by
  after_results_entrywise []

theorem third_start : after hostOps0_2 V0 (Proc.devRef .tc main_v17_1) = extractStridedSlice S65535x64 ![1, 0] (V0 (Proc.devRef .tc main_arg2)) slices_S65537x64_S65535x64_1_0 := by
  after_results_entrywise []

theorem third_taken : after hostOps0_2 V0 (Proc.devRef .tc main_v17_2) = extractStridedSlice S65535x64 ![1, 0] (shapeCast S65536x64 (V0 (Proc.devRef .tc main_v2)) shapeCasts_S65536x64x1_S65536x64) slices_S65536x64_S65535x64_1_0 := by
  after_results_entrywise []

theorem third_same : after hostOps0_2 V0 (Proc.devRef .tc main_v17_3) = cmpi .eq (addi (iotaInDim S64x64 32 0) (broadcastInDim S64x64 ![] bcast_S_S64x64 (constantI S_ 32 0#32))) (iotaInDim S64x64 32 1) := by
  after_results_entrywise []

theorem third_count : after hostOps0_2 V0 (Proc.devRef .tc main_v17_4) = constantI S_ 32 0#32 := by
  after_results_entrywise []

theorem third_logs : after hostOps0_2 V0 (Proc.devRef .tc main_v17_5) =
    addf (F := Ideal) (φ := .f32) (shapeCast S64 (extractStridedSlice S1x64 ![0, 0] (V0 (Proc.devRef .tc main_arg2)) slices_S65537x64_S1x64_0_0) shapeCasts_S1x64_S64)
      (shapeCast S64 (extractStridedSlice S1x64 ![0, 0] (shapeCast S65536x64 (V0 (Proc.devRef .tc main_v2)) shapeCasts_S65536x64x1_S65536x64) slices_S65536x64_S1x64_0_0) shapeCasts_S1x64_S64) := by
  after_results_entrywise []

/-- The tests on an index that lies in the table. -/
theorem index_tests (a : Fin 32) : IntOp.cmpi .slt (BitVec.ofNat 32 a.val) 0#32 = 0#1
    ∧ IntOp.andi (IntOp.cmpi .sge (BitVec.ofNat 32 a.val) 0#32) (IntOp.cmpi .sle (BitVec.ofNat 32 a.val) 31#32) = 1#1 := by
  revert a; decide

theorem wrapped_id (d : IVec S65536x1x1 32) (i : S65536x1x1.Idx) (a : Fin 32) (e : d i = BitVec.ofNat 32 a.val) : wrapped d i = BitVec.ofNat 32 a.val := by
  show Scalar.select (IntOp.cmpi .slt (d i) 0#32) (IntOp.addi (d i) 32#32) (d i) = _
  rw [e, (index_tests a).1]
  rfl

theorem all_inside (d : IVec S65536x1x1 32) (h : ∀ i, ∃ a : Fin 32, d i = BitVec.ofNat 32 a.val) (j : S65536x1.Idx) : inside (wrapped d) j = 1#1 := by
  refine Host.reduce_andi_one _ _ _ _ _ rfl fun i => ?_
  obtain ⟨a, e⟩ := h i
  show IntOp.andi (IntOp.cmpi .sge (wrapped d i) 0#32) (IntOp.cmpi .sle (wrapped d i) 31#32) = 1#1
  rw [wrapped_id d i a e]
  exact (index_tests a).2

theorem took_at (x : FVec Ideal S65536x64x32 .f32) (d : IVec S65536x1x1 32) (h : ∀ i, ∃ a : Fin 32, d i = BitVec.ofNat 32 a.val)
    (t : Fin 65536) (l : Fin 64) (a : Fin 32) (e : d (ix3 t (0 : Fin 1) (0 : Fin 1)) = BitVec.ofNat 32 a.val) :
    took x d (ix3 t l (0 : Fin 1)) = x (ix3 t l a) := by
  have hi : broadcastInDim S65536x64x1 ![0, 2] bcast_S65536x1_S65536x64x1_0_2 (inside (wrapped d)) (ix3 t l (0 : Fin 1)) = 1#1 := all_inside d h _
  show Scalar.select (broadcastInDim S65536x64x1 ![0, 2] bcast_S65536x1_S65536x64x1_0_2 (inside (wrapped d)) (ix3 t l (0 : Fin 1))) _ _ = _
  rw [hi]
  exact picked x (wrapped d) t l a (wrapped_id d _ a e)

theorem same_word (i j : Fin 64) : IntOp.cmpi CmpIPredicate.eq (IntOp.addi (BitVec.ofNat 32 i.val) 0#32) (BitVec.ofNat 32 j.val) = if i = j then 1#1 else 0#1 := by
  have e : IntOp.addi (BitVec.ofNat 32 i.val) 0#32 = BitVec.ofNat 32 i.val := BitVec.add_zero _
  rw [e]
  by_cases h : i = j
  · rw [if_pos h, h]
    exact IntOp.cmpi_eq.mpr rfl
  · rw [if_neg h]
    refine (BitVec.eq_zero_or_eq_one _).resolve_right fun g => h (Fin.ext ?_)
    have f := congrArg BitVec.toNat (IntOp.cmpi_eq.mp g)
    rwa [BitVec.toNat_ofNat, BitVec.toNat_ofNat, Nat.mod_eq_of_lt (by omega), Nat.mod_eq_of_lt (by omega)] at f

theorem first_arg1 : after hostOps0 V0 (Proc.devRef .tc main_arg1) = V0 (Proc.devRef .tc main_arg1) := by
  after_results_entrywise []

theorem first_arg2 : after hostOps0 V0 (Proc.devRef .tc main_arg2) = V0 (Proc.devRef .tc main_arg2) := by
  after_results_entrywise []

theorem second_arg1 : after hostOps0_1 V0 (Proc.devRef .tc main_arg1) = V0 (Proc.devRef .tc main_arg1) := by
  after_results_entrywise []

theorem second_arg2 : after hostOps0_1 V0 (Proc.devRef .tc main_arg2) = V0 (Proc.devRef .tc main_arg2) := by
  after_results_entrywise []

variable {V0} {A : (⟨3, ![65537, 64, 32]⟩ : Shape).Idx → EReal} {B : (⟨3, ![65537, 64, 2]⟩ : Shape).Idx → EReal}
  {C : (⟨2, ![65537, 64]⟩ : Shape).Idx → EReal} {D : (⟨1, ![65536]⟩ : Shape).Idx → BitVec 32}
variable (ok : Allowed A B C D)

include ok

theorem named (i : (⟨1, ![65536]⟩ : Shape).Idx) : ∃ a : Fin 32, D i = BitVec.ofNat 32 a.val := by
  obtain ⟨t, rfl⟩ : ∃ t : Fin 65536, i = ix1 t := ⟨i 0, by idx_vars i⟩
  exact ⟨⟨(D (ix1 t)).toNat, ok.taken t⟩, BitVec.eq_of_toNat_eq (by rw [BitVec.toNat_ofNat, Nat.mod_eq_of_lt (D (ix1 t)).isLt])⟩

/-- The log probability of the action taken, for every step and option. -/
theorem taken_value (hA : V0 (Proc.devRef .tc main_arg0) = A) (hD : V0 (Proc.devRef .tc main_arg3) = D) (t : Fin 65536) (l : Fin 64) :
    (after hostOps0_1 (after hostOps0 V0) (Proc.devRef .tc main_v2) (ix3 t l (0 : Fin 1)) : EReal) = act A D t.val l := by
  rw [second_v2, first_v0, first_v1, hA, hD]
  refine (took_at _ _ (fun i => named ok _) t l (choice D t.val) ?_).trans ?_
  · have e : D (ix1 t) = BitVec.ofNat 32 (choice D t.val).val := by
      have ht := ok.taken t
      simp only [choice, tick_of t.isLt, Nat.mod_eq_of_lt ht]
      exact BitVec.eq_of_toNat_eq (by rw [BitVec.toNat_ofNat, Nat.mod_eq_of_lt (D (ix1 t)).isLt])
    refine Eq.trans (congrArg D (funext fun q => ?_)) e
    obtain rfl : q = (0 : Fin 1) := Subsingleton.elim (α := Fin 1) _ _
    rfl
  · pointwise
    simp only [act, row_of (show t.val < 65537 by omega)]

/-- What the loop starts from. -/
theorem loop_entry (hA : V0 (Proc.devRef .tc main_arg0) = A) (hB : V0 (Proc.devRef .tc main_arg1) = B) (hC : V0 (Proc.devRef .tc main_arg2) = C)
    (hD : V0 (Proc.devRef .tc main_arg3) = D) : Trip A B C D 0 (after hostOps0_2 (after hostOps0_1 (after hostOps0 V0))) where
  stop t l j := by
    rw [third_stop, second_arg1, first_arg1, hB]
    pointwise
    rw [row_of (show 1 + t.val < 65537 by omega)]
  start t l := by
    rw [third_start, second_arg2, first_arg2, hC]
    pointwise
    rw [begin, row_of (show 1 + t.val < 65537 by omega)]
  taken t l := by
    rw [third_taken]
    pointwise
    exact taken_value ok hA hD ⟨1 + t.val, by omega⟩ l
  same i j := by
    rw [third_same]
    pointwise
    exact same_word i j
  count i := by
    rw [third_count]
    rfl
  logs l := by
    rw [third_logs, second_arg2, first_arg2, hC]
    pointwise
    refine (congrArg (C (ix2 (0 : Fin 65537) l) + ·) (taken_value ok hA hD 0 l)).trans ?_
    refine Eq.trans ?_ (lg_weight (sum_nonpos (begin_le ok 0 l) (act_le ok 0 l))).symm
    rw [begin, row_of (show 0 < 65537 by omega)]
    rfl

end Entry

section Outcome

variable {A : (⟨3, ![65537, 64, 32]⟩ : Shape).Idx → EReal} {B : (⟨3, ![65537, 64, 2]⟩ : Shape).Idx → EReal}
  {C : (⟨2, ![65537, 64]⟩ : Shape).Idx → EReal} {D : (⟨1, ![65536]⟩ : Shape).Idx → BitVec 32}

/-- What the reference returns: the negated log of the mass after all steps. -/
theorem reference_value (m : (l : Loc nD τ sig) → Buf (Elt Ideal) l) (c : Dev nD) (ok : Allowed A B C D)
    (hA : m ((c : Thread nD τ).loc main_arg0) = A) (hB : m ((c : Thread nD τ).loc main_arg1) = B)
    (hC : m ((c : Thread nD τ).loc main_arg2) = C) (hD : m ((c : Thread nD τ).loc main_arg3) = D) :
    (out_main_v31 (STEP^[65535] (entryContents preI m c)) (ix2 (0 : Fin 1) (0 : Fin 1)) : EReal) = -lg (∑ l, wave A B C D 65535 l * ending B 65536 l) := by
  have h0 : Trip A B C D 0 (entryContents preI m c) := loop_entry ok hA hB hC hD
  refine out_value ok (all_trips ok h0 65535 le_rfl) fun i => ?_
  rw [iter_main_arg1 m c]
  exact congrFun hB i

end Outcome

end Cert.Hmm

end
-- ==== Proof.Precondition.lean ====
/- The precondition, read element by element. -/
module

public import proofs.«01_k».proof.Proof.Gen.Pre_log_probabilities
public import proofs.«01_k».proof.Proof.Model
public import Idealize.ShloMosaic.Lib.ReduceAll
public import Idealize.ShloMosaic.Lib.Pointwise
public import Idealize.ShloMosaic.Lib.Pipeline.ValueKit.Point

@[expose] public section

noncomputable section

namespace Cert.Hmm

open Idealize.ShloMosaic Cert.Pre_log_probabilities Cert.Pre_log_probabilities.Gen

theorem lower_word : Ideal.ofBits FTy.f32 0xC2480000#32 = ((-50 : ℝ) : EReal) := by
  simp [Ideal.ofBits, Ideal.ieee]
  rw [← EReal.coe_mul]
  norm_num

theorem zero_bits : Ideal.ofBits FTy.f32 0x00000000#32 = 0 := by simp [Ideal.ofBits, Ideal.ieee]

theorem at_most {x y : EReal} (h : Ideal.cmp .ole x y = 1#1) : x ≤ y := by
  by_contra hn
  simp [Ideal.cmp, hn] at h

theorem at_least {x y : EReal} (h : Ideal.cmp .oge x y = 1#1) : y ≤ x := by
  by_contra hn
  simp [Ideal.cmp, hn] at h

theorem below_32 {w : BitVec 32} (h : IntOp.andi (IntOp.cmpi .sge w 0#32) (IntOp.cmpi .slt w 32#32) = 1#1) : w.toNat < 32 := by
  obtain ⟨h0, h1⟩ := IntOp.andi_eq_one.mp h
  have a := IntOp.cmpi_sge.mp h0
  have b := IntOp.cmpi_slt.mp h1
  have e0 : (0#32 : BitVec 32).toInt = 0 := rfl
  have e1 : (32#32 : BitVec 32).toInt = 32 := rfl
  rw [e0] at a
  rw [e1] at b
  have := w.isLt
  rw [BitVec.toInt_eq_toNat_cond] at a b
  split at a <;> omega

/-- Where the precondition holds, the inputs are as `Allowed` says. -/
theorem allowed_of (A : FVec Ideal S65537x64x32 .f32) (B : FVec Ideal S65537x64x2 .f32) (C : FVec Ideal S65537x64 .f32) (D : IVec S65536 32)
    (h : Cert.Pre_log_probabilities.fn (F := Ideal) A B C D = fun _ => 1#1) : Allowed A B C D := by
  have h0 := congrFun h ix0
  obtain ⟨h1, hD⟩ := IntOp.andi_eq_one.mp (show IntOp.andi _ _ = 1#1 from h0)
  obtain ⟨h2, hC⟩ := IntOp.andi_eq_one.mp (show IntOp.andi _ _ = 1#1 from h1)
  obtain ⟨h3, hE⟩ := IntOp.andi_eq_one.mp (show IntOp.andi _ _ = 1#1 from h2)
  obtain ⟨hA, hB⟩ := IntOp.andi_eq_one.mp (show IntOp.andi _ _ = 1#1 from h3)
  refine ⟨fun i => ?_, fun i => ?_, fun t l => ?_, fun i => ?_, fun t => ?_⟩
  · have e := Host.reduce_andi_all _ _ _ _ _ hA i
    exact (at_most e).trans_eq zero_bits
  · have e := Host.reduce_andi_all _ _ _ _ _ hB i
    exact (at_most e).trans_eq zero_bits
  · have e := Host.reduce_andi_all _ _ _ _ _ hE (ix2 t l)
    have f := at_least e
    have g : shapeCast S65537x64 (extractStridedSlice S65537x64x1 ![0, 0, 0] B slices_S65537x64x2_S65537x64x1_0_0_0) shapeCasts_S65537x64x1_S65537x64 (ix2 t l) = B (ix3 t l (0 : Fin 2)) := by
      pointwise
    exact (lower_word.symm.trans_le f).trans_eq g
  · have e := Host.reduce_andi_all _ _ _ _ _ hC i
    exact (at_most e).trans_eq zero_bits
  · have e := Host.reduce_andi_all _ _ _ _ _ hD (ix1 t)
    exact below_32 e

end Cert.Hmm

end
-- ==== Proof.lean ====
/- The proof of this directory's claim. -/
module

public import proofs.«01_k».proof.Defs
public import proofs.«01_k».proof.Proof.Frames
public import proofs.«01_k».proof.Proof.Gen.Pre_log_probabilities
public import proofs.«01_k».proof.Proof.Gen.KernelIdeal.Value
public import proofs.«01_k».proof.Proof.Gen.ReferenceIdeal.Run
public import proofs.«01_k».proof.Proof.Grid
public import proofs.«01_k».proof.Proof.Entry
public import proofs.«01_k».proof.Proof.Precondition
public import Idealize.ShloMosaic.Adequacy
public import Idealize.ShloMosaic.Init

@[expose] public section

noncomputable section

namespace Cert.Proof

open Idealize.ShloMosaic Idealize.SL.Sem

/-- The kernel's result and the reference's are the same number, the negated log of the mass after all steps. -/
theorem values_agree : Cert.algebraic_KernelIdeal_ReferenceIdeal_pre_log_probabilities (hKernelIdeal := Cert.KernelIdeal.Gen.facts)
    (hReferenceIdeal := Cert.ReferenceIdeal.Gen.facts) (hPre_log_probabilities := Cert.Pre_log_probabilities.Gen.facts) := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  have ok := Cert.Hmm.allowed_of _ _ _ _ (hpre c)
  obtain ⟨h0, h1, h2, h3⟩ := hagree c
  funext i
  obtain ⟨a, b, rfl⟩ : ∃ a b : Fin 1, i = ix2 a b := ⟨i 0, i 1, by idx_vars i⟩
  obtain rfl : a = 0 := Subsingleton.elim _ _
  obtain rfl : b = 0 := Subsingleton.elim _ _
  exact (Cert.Hmm.reference_value m' c ok h0 h1 h2 h3).trans (Cert.Hmm.kernel_value (m := m) (c := c) ok).symm

theorem claim : Cert.Claim :=
  ⟨Cert.Kernel.Gen.facts, Cert.KernelIdeal.Gen.facts, Cert.ReferenceIdeal.Gen.facts, Cert.Pre_log_probabilities.Gen.facts,
    kernel_frame, ideal_frame, fun m ρ _ => Cert.KernelIdeal.Gen.frame m ρ, reference_frame, fun m ρ _ => reference_frame m ρ trivial, ln2_named, values_agree⟩

end Cert.Proof

end
